-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 1024, 512]⟩ ⟨3, ![4, 1024, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 512]⟩ ⟨2, ![4, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![2048, 512]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x512 : Shape := ⟨3, ![4, 1024, 512]⟩
abbrev S4x512 : Shape := ⟨2, ![4, 512]⟩
abbrev S512x512 : Shape := ⟨2, ![512, 512]⟩
abbrev S2x1024x512 : Shape := ⟨3, ![2, 1024, 512]⟩
abbrev S24 : Shape := ⟨1, ![24]⟩
abbrev S_ : Shape := ⟨0, ![]⟩
abbrev S1x1024x512 : Shape := ⟨3, ![1, 1024, 512]⟩
abbrev S1024x512 : Shape := ⟨2, ![1024, 512]⟩
abbrev S1x512 : Shape := ⟨2, ![1, 512]⟩
abbrev S512 : Shape := ⟨1, ![512]⟩
abbrev S3x512 : Shape := ⟨2, ![3, 512]⟩
abbrev S1021x512 : Shape := ⟨2, ![1021, 512]⟩
abbrev S2x512 : Shape := ⟨2, ![2, 512]⟩
abbrev S1022x512 : Shape := ⟨2, ![1022, 512]⟩
abbrev S1023x512 : Shape := ⟨2, ![1023, 512]⟩
abbrev S1x512x512 : Shape := ⟨3, ![1, 512, 512]⟩
abbrev S1 : Shape := ⟨1, ![1]⟩
abbrev S1x256x512 : Shape := ⟨3, ![1, 256, 512]⟩
abbrev S256x512 : Shape := ⟨2, ![256, 512]⟩

abbrev nBuf : Space → Nat
  | .hbm => 4
  | .vmem => 7
  | .smem => 0
  | _ => 0

abbrev bufTy : (tb : Table) → Fin (tcTables nBuf tb) → BufTy
  | .hbm, ⟨0, _⟩ => ⟨S4x1024x512, .f32⟩
  | .hbm, ⟨1, _⟩ => ⟨S4x512, .f32⟩
  | .hbm, ⟨2, _⟩ => ⟨S512x512, .f32⟩
  | .hbm, ⟨3, _⟩ => ⟨S4x1024x512, .bf16⟩
  | .local _ .vmem, ⟨0, _⟩ => ⟨S4x1024x512, .f32⟩
  | .local _ .vmem, ⟨1, _⟩ => ⟨S4x512, .f32⟩
  | .local _ .vmem, ⟨2, _⟩ => ⟨S512x512, .f32⟩
  | .local _ .vmem, ⟨3, _⟩ => ⟨S4x1024x512, .bf16⟩
  | .local _ .vmem, ⟨4, _⟩ => ⟨S2x1024x512, .f32⟩
  | .local _ .vmem, ⟨5, _⟩ => ⟨S2x1024x512, .bf16⟩
  | .local _ .vmem, ⟨6, _⟩ => ⟨S2x1024x512, .bf16⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_31 : BitVec 32 := 1#32
  let v66 : BitVec 32 := Scalar.muli v32 c1_i32_31
  let v67 : BitVec 32 := Scalar.addi c0_i32_32 v66
  v67.toNat
def k0_dev2 (d0 : Dev nD) : Nat :=
  let c0_i32_35 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_34 : BitVec 32 := 1#32
  let v68 : BitVec 32 := Scalar.muli v33 c1_i32_34
  let v69 : BitVec 32 := Scalar.addi c0_i32_35 v68
  v69.toNat
def k0_off1 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let v70 : Index := Scalar.indexCast v62
  let c0 : Index := 0#32
  let c0_37 : Index := 0#32
  ![v70.toNat, 0, 0]
def k0_off2 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let v118 : Index := Scalar.indexCast v62
  let c0_51 : Index := 0#32
  let c0_52 : Index := 0#32
  ![v118.toNat, 0, 0]
def k0_off3 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let c0_i32_60 : BitVec 32 := 0#32
  let c0_i32_61 : BitVec 32 := 0#32
  ![v62.toNat, 0, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_56 : BitVec 32 := 1#32
  let v122 : BitVec 32 := Scalar.muli v32 c1_i32_56
  let v123 : BitVec 32 := Scalar.addi c0_i32_57 v122
  v123.toNat
def k0_off4 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let c256_i32_68 : BitVec 32 := 256#32
  let c0_i32_69 : BitVec 32 := 0#32
  ![v62.toNat, 256, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_65 : BitVec 32 := 1#32
  let v132 : BitVec 32 := Scalar.muli v32 c1_i32_65
  let v133 : BitVec 32 := Scalar.addi c0_i32_66 v132
  v133.toNat
def k0_off5 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let v142 : Index := Scalar.indexCast v64
  let c0_70 : Index := 0#32
  let c0_71 : Index := 0#32
  ![v142.toNat, 0, 0]
def k0_off6 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let v190 : Index := Scalar.indexCast v64
  let c0_89 : Index := 0#32
  let c0_90 : Index := 0#32
  ![v190.toNat, 0, 0]
def k0_off7 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let c0_i32_98 : BitVec 32 := 0#32
  let c0_i32_99 : BitVec 32 := 0#32
  ![v64.toNat, 0, 0]
def k0_dev5 (d0 : Dev nD) : Nat :=
  let c0_i32_95 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_94 : BitVec 32 := 1#32
  let v194 : BitVec 32 := Scalar.muli v33 c1_i32_94
  let v195 : BitVec 32 := Scalar.addi c0_i32_95 v194
  v195.toNat
def k0_off8 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let c256_i32_106 : BitVec 32 := 256#32
  let c0_i32_107 : BitVec 32 := 0#32
  ![v64.toNat, 256, 0]
def k0_dev6 (d0 : Dev nD) : Nat :=
  let c0_i32_103 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_102 : BitVec 32 := 1#32
  let v204 : BitVec 32 := Scalar.muli v33 c1_i32_102
  let v205 : BitVec 32 := Scalar.addi c0_i32_103 v204
  v205.toNat
def k0_off9 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let v219 : Index := Scalar.indexCast v62
  let c512 : Index := 512#32
  let c0_111 : Index := 0#32
  ![v219.toNat, 512, 0]
def k0_off10 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let c512_i32_118 : BitVec 32 := 512#32
  let c0_i32_119 : BitVec 32 := 0#32
  ![v62.toNat, 512, 0]
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_115 : BitVec 32 := 1#32
  let v223 : BitVec 32 := Scalar.muli v32 c1_i32_115
  let v224 : BitVec 32 := Scalar.addi c0_i32_116 v223
  v224.toNat
def k0_off11 (d0 : Dev nD) : Fin 3 → Nat :=
  let c1_i32_27 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v62 : BitVec 32 := Scalar.subi c1_i32_27 v61
  let c768_i32_126 : BitVec 32 := 768#32
  let c0_i32_127 : BitVec 32 := 0#32
  ![v62.toNat, 768, 0]
def k0_dev8 (d0 : Dev nD) : Nat :=
  let c0_i32_124 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_123 : BitVec 32 := 1#32
  let v233 : BitVec 32 := Scalar.muli v32 c1_i32_123
  let v234 : BitVec 32 := Scalar.addi c0_i32_124 v233
  v234.toNat
def k0_off12 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let v248 : Index := Scalar.indexCast v64
  let c512_131 : Index := 512#32
  let c0_132 : Index := 0#32
  ![v248.toNat, 512, 0]
def k0_off13 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let c512_i32_139 : BitVec 32 := 512#32
  let c0_i32_140 : BitVec 32 := 0#32
  ![v64.toNat, 512, 0]
def k0_dev9 (d0 : Dev nD) : Nat :=
  let c0_i32_136 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_135 : BitVec 32 := 1#32
  let v252 : BitVec 32 := Scalar.muli v33 c1_i32_135
  let v253 : BitVec 32 := Scalar.addi c0_i32_136 v252
  v253.toNat
def k0_off14 (d0 : Dev nD) : Fin 3 → Nat :=
  let c3_i32_29 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v64 : BitVec 32 := Scalar.subi c3_i32_29 v29
  let c768_i32_147 : BitVec 32 := 768#32
  let c0_i32_148 : BitVec 32 := 0#32
  ![v64.toNat, 768, 0]
def k0_dev10 (d0 : Dev nD) : Nat :=
  let c0_i32_144 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_143 : BitVec 32 := 1#32
  let v262 : BitVec 32 := Scalar.muli v33 c1_i32_143
  let v263 : BitVec 32 := Scalar.addi c0_i32_144 v262
  v263.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v272 : Index := Scalar.indexCast v61
  let c0_149 : Index := 0#32
  let c0_150 : Index := 0#32
  ![v272.toNat, 0, 0]
def k0_off16 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let v321 : Index := Scalar.indexCast v63
  let c0_171 : Index := 0#32
  let c0_172 : Index := 0#32
  ![v321.toNat, 0, 0]
def k0_off17 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v391 : Index := Scalar.indexCast v61
  let c0_216 : Index := 0#32
  let c0_217 : Index := 0#32
  ![v391.toNat, 0, 0]
def k0_off18 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c0_i32_224 : BitVec 32 := 0#32
  let c0_i32_225 : BitVec 32 := 0#32
  ![v61.toNat, 0, 0]
def k0_dev11 (d0 : Dev nD) : Nat :=
  let c0_i32_221 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_220 : BitVec 32 := 1#32
  let v395 : BitVec 32 := Scalar.muli v33 c1_i32_220
  let v396 : BitVec 32 := Scalar.addi c0_i32_221 v395
  v396.toNat
def k0_off19 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let v426 : Index := Scalar.indexCast v63
  let c0_249 : Index := 0#32
  let c0_250 : Index := 0#32
  ![v426.toNat, 0, 0]
def k0_off20 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let c0_i32_257 : BitVec 32 := 0#32
  let c0_i32_258 : BitVec 32 := 0#32
  ![v63.toNat, 0, 0]
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_253 : BitVec 32 := 1#32
  let v430 : BitVec 32 := Scalar.muli v32 c1_i32_253
  let v431 : BitVec 32 := Scalar.addi c0_i32_254 v430
  v431.toNat
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v461 : Index := Scalar.indexCast v61
  let c256_281 : Index := 256#32
  let c0_282 : Index := 0#32
  ![v461.toNat, 256, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c256_i32_289 : BitVec 32 := 256#32
  let c0_i32_290 : BitVec 32 := 0#32
  ![v61.toNat, 256, 0]
def k0_dev13 (d0 : Dev nD) : Nat :=
  let c0_i32_286 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_285 : BitVec 32 := 1#32
  let v465 : BitVec 32 := Scalar.muli v33 c1_i32_285
  let v466 : BitVec 32 := Scalar.addi c0_i32_286 v465
  v466.toNat
def k0_off23 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let v496 : Index := Scalar.indexCast v63
  let c256_314 : Index := 256#32
  let c0_315 : Index := 0#32
  ![v496.toNat, 256, 0]
def k0_off24 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let c256_i32_322 : BitVec 32 := 256#32
  let c0_i32_323 : BitVec 32 := 0#32
  ![v63.toNat, 256, 0]
def k0_dev14 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_318 : BitVec 32 := 1#32
  let v500 : BitVec 32 := Scalar.muli v32 c1_i32_318
  let v501 : BitVec 32 := Scalar.addi c0_i32_319 v500
  v501.toNat
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v531 : Index := Scalar.indexCast v61
  let c512_347 : Index := 512#32
  let c0_348 : Index := 0#32
  ![v531.toNat, 512, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c512_i32_355 : BitVec 32 := 512#32
  let c0_i32_356 : BitVec 32 := 0#32
  ![v61.toNat, 512, 0]
def k0_dev15 (d0 : Dev nD) : Nat :=
  let c0_i32_352 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_351 : BitVec 32 := 1#32
  let v535 : BitVec 32 := Scalar.muli v33 c1_i32_351
  let v536 : BitVec 32 := Scalar.addi c0_i32_352 v535
  v536.toNat
def k0_off27 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let v566 : Index := Scalar.indexCast v63
  let c512_380 : Index := 512#32
  let c0_381 : Index := 0#32
  ![v566.toNat, 512, 0]
def k0_off28 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let c512_i32_388 : BitVec 32 := 512#32
  let c0_i32_389 : BitVec 32 := 0#32
  ![v63.toNat, 512, 0]
def k0_dev16 (d0 : Dev nD) : Nat :=
  let c0_i32_385 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_384 : BitVec 32 := 1#32
  let v570 : BitVec 32 := Scalar.muli v32 c1_i32_384
  let v571 : BitVec 32 := Scalar.addi c0_i32_385 v570
  v571.toNat
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let v601 : Index := Scalar.indexCast v61
  let c768_412 : Index := 768#32
  let c0_413 : Index := 0#32
  ![v601.toNat, 768, 0]
def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v34 : BitVec 32 := Scalar.addi v2 c1_i32_13
  let c0_i32_15 : BitVec 32 := 0#32
  let v36 : BitVec 1 := Scalar.cmpi .sgt v34 c0_i32_15
  let v37 : BitVec 32 := Scalar.extui v36
  let c0_i32_16 : BitVec 32 := 0#32
  let v38 : BitVec 1 := Scalar.cmpi .slt v34 c0_i32_16
  let v39 : BitVec 32 := Scalar.extui v38
  let v40 : BitVec 32 := Scalar.subi v37 v39
  let c2_i32_14 : BitVec 32 := 2#32
  let c0_i32_17 : BitVec 32 := 0#32
  let v41 : BitVec 1 := Scalar.cmpi .sgt c2_i32_14 c0_i32_17
  let v42 : BitVec 32 := Scalar.extui v41
  let c0_i32_18 : BitVec 32 := 0#32
  let v43 : BitVec 1 := Scalar.cmpi .slt c2_i32_14 c0_i32_18
  let v44 : BitVec 32 := Scalar.extui v43
  let v45 : BitVec 32 := Scalar.subi v42 v44
  let v46 : BitVec 1 := Scalar.cmpi .ne v40 v45
  let v47 : BitVec 32 := Scalar.remsi v34 c2_i32_14
  let c0_i32_19 : BitVec 32 := 0#32
  let v48 : BitVec 1 := Scalar.cmpi .ne v47 c0_i32_19
  let v49 : BitVec 1 := Scalar.andi v46 v48
  let v35 : BitVec 32 := Scalar.divsi v34 c2_i32_14
  let c1_i32_20 : BitVec 32 := 1#32
  let v50 : BitVec 32 := Scalar.subi v35 c1_i32_20
  let v51 : BitVec 32 := Scalar.select v49 v50 v35
  let c2_i32_21 : BitVec 32 := 2#32
  let c0_i32_22 : BitVec 32 := 0#32
  let v52 : BitVec 1 := Scalar.cmpi .eq c2_i32_21 c0_i32_22
  let c1_i32_23 : BitVec 32 := 1#32
  let v53 : BitVec 32 := Scalar.select v52 c1_i32_23 c2_i32_21
  let v54 : BitVec 32 := Scalar.remsi v51 v53
  let c0_i32_25 : BitVec 32 := 0#32
  let v56 : BitVec 1 := Scalar.cmpi .slt v54 c0_i32_25
  let c0_i32_26 : BitVec 32 := 0#32
  let v57 : BitVec 1 := Scalar.cmpi .slt v53 c0_i32_26
  let v58 : BitVec 1 := Scalar.xori v56 v57
  let c0_i32_24 : BitVec 32 := 0#32
  let v55 : BitVec 1 := Scalar.cmpi .ne v54 c0_i32_24
  let v59 : BitVec 1 := Scalar.andi v58 v55
  let v60 : BitVec 32 := Scalar.addi v54 v53
  let v61 : BitVec 32 := Scalar.select v59 v60 v54
  let c768_i32_420 : BitVec 32 := 768#32
  let c0_i32_421 : BitVec 32 := 0#32
  ![v61.toNat, 768, 0]
def k0_dev17 (d0 : Dev nD) : Nat :=
  let c0_i32_417 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_416 : BitVec 32 := 1#32
  let v605 : BitVec 32 := Scalar.muli v33 c1_i32_416
  let v606 : BitVec 32 := Scalar.addi c0_i32_417 v605
  v606.toNat
def k0_off31 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let v636 : Index := Scalar.indexCast v63
  let c768_445 : Index := 768#32
  let c0_446 : Index := 0#32
  ![v636.toNat, 768, 0]
def k0_off32 (d0 : Dev nD) : Fin 3 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c2_i32_4 : BitVec 32 := 2#32
  let c0_i32_7 : BitVec 32 := 0#32
  let v19 : BitVec 1 := Scalar.cmpi .sgt c2_i32_4 c0_i32_7
  let v20 : BitVec 32 := Scalar.extui v19
  let c0_i32_8 : BitVec 32 := 0#32
  let v21 : BitVec 1 := Scalar.cmpi .slt c2_i32_4 c0_i32_8
  let v22 : BitVec 32 := Scalar.extui v21
  let v23 : BitVec 32 := Scalar.subi v20 v22
  let v24 : BitVec 1 := Scalar.cmpi .ne v18 v23
  let v25 : BitVec 32 := Scalar.remsi v2 c2_i32_4
  let c0_i32_9 : BitVec 32 := 0#32
  let v26 : BitVec 1 := Scalar.cmpi .ne v25 c0_i32_9
  let v27 : BitVec 1 := Scalar.andi v24 v26
  let v13 : BitVec 32 := Scalar.divsi v2 c2_i32_4
  let c1_i32_10 : BitVec 32 := 1#32
  let v28 : BitVec 32 := Scalar.subi v13 c1_i32_10
  let v29 : BitVec 32 := Scalar.select v27 v28 v13
  let v63 : BitVec 32 := Scalar.addi c2_i32_28 v29
  let c768_i32_453 : BitVec 32 := 768#32
  let c0_i32_454 : BitVec 32 := 0#32
  ![v63.toNat, 768, 0]
def k0_dev18 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_449 : BitVec 32 := 1#32
  let v640 : BitVec 32 := Scalar.muli v32 c1_i32_449
  let v641 : BitVec 32 := Scalar.addi c0_i32_450 v640
  v641.toNat
def k0_dev19 (d0 : Dev nD) : Nat :=
  let c0_i32_485 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_484 : BitVec 32 := 1#32
  let v679 : BitVec 32 := Scalar.muli v32 c1_i32_484
  let v680 : BitVec 32 := Scalar.addi c0_i32_485 v679
  v680.toNat
def k0_dev20 (d0 : Dev nD) : Nat :=
  let c0_i32_520 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_519 : BitVec 32 := 1#32
  let v718 : BitVec 32 := Scalar.muli v33 c1_i32_519
  let v719 : BitVec 32 := Scalar.addi c0_i32_520 v718
  v719.toNat
def k0_dev21 (d0 : Dev nD) : Nat :=
  let c0_i32_555 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_554 : BitVec 32 := 1#32
  let v757 : BitVec 32 := Scalar.muli v32 c1_i32_554
  let v758 : BitVec 32 := Scalar.addi c0_i32_555 v757
  v758.toNat
def k0_dev22 (d0 : Dev nD) : Nat :=
  let c0_i32_590 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_589 : BitVec 32 := 1#32
  let v796 : BitVec 32 := Scalar.muli v33 c1_i32_589
  let v797 : BitVec 32 := Scalar.addi c0_i32_590 v796
  v797.toNat
def k0_dev23 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_624 : BitVec 32 := 1#32
  let v835 : BitVec 32 := Scalar.muli v32 c1_i32_624
  let v836 : BitVec 32 := Scalar.addi c0_i32_625 v835
  v836.toNat
def k0_dev24 (d0 : Dev nD) : Nat :=
  let c0_i32_660 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_659 : BitVec 32 := 1#32
  let v874 : BitVec 32 := Scalar.muli v33 c1_i32_659
  let v875 : BitVec 32 := Scalar.addi c0_i32_660 v874
  v875.toNat
def k0_dev25 (d0 : Dev nD) : Nat :=
  let c0_i32_695 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_11 : BitVec 32 := 1#32
  let v30 : BitVec 32 := Scalar.addi v2 c1_i32_11
  let c2_i32_12 : BitVec 32 := 2#32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v31 : BitVec 32 := Scalar.muli c2_i32_12 v12
  let v32 : BitVec 32 := Scalar.subi v30 v31
  let c1_i32_694 : BitVec 32 := 1#32
  let v913 : BitVec 32 := Scalar.muli v32 c1_i32_694
  let v914 : BitVec 32 := Scalar.addi c0_i32_695 v913
  v914.toNat
def k0_dev26 (d0 : Dev nD) : Nat :=
  let c0_i32_730 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v33 : BitVec 32 := Scalar.subi c3_i32 v2
  let c1_i32_729 : BitVec 32 := 1#32
  let v952 : BitVec 32 := Scalar.muli v33 c1_i32_729
  let v953 : BitVec 32 := Scalar.addi c0_i32_730 v952
  v953.toNat
abbrev stage0_0 : Fin 1 → Memref sig .tc .vmem S4x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x2048 : Shape := ⟨3, ![4, 1024, 2048]⟩
abbrev S4x2048 : Shape := ⟨2, ![4, 2048]⟩
abbrev S2048x512 : Shape := ⟨2, ![2048, 512]⟩
abbrev S_ : Shape := ⟨0, ![]⟩
abbrev S4x3x2048 : Shape := ⟨3, ![4, 3, 2048]⟩
abbrev S4x1027x2048 : Shape := ⟨3, ![4, 1027, 2048]⟩
abbrev S1x2048 : Shape := ⟨2, ![1, 2048]⟩
abbrev S2048 : Shape := ⟨1, ![2048]⟩
abbrev S1x1x2048 : Shape := ⟨3, ![1, 1, 2048]⟩
abbrev S4x1024x512 : Shape := ⟨3, ![4, 1024, 512]⟩

abbrev nBuf : Space → Nat
  | .hbm => 44
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S4x2048, .f32⟩
  | .hbm, ⟨2, _⟩ => ⟨S2048x512, .f32⟩
  | .hbm, ⟨3, _⟩ => ⟨S_, .f32⟩
  | .hbm, ⟨4, _⟩ => ⟨S4x3x2048, .f32⟩
  | .hbm, ⟨5, _⟩ => ⟨S4x1027x2048, .f32⟩
  | .hbm, ⟨6, _⟩ => ⟨S_, .f32⟩
  | .hbm, ⟨7, _⟩ => ⟨S4x1024x2048, .f32⟩
  | .hbm, ⟨8, _⟩ => ⟨S4x1024x2048, .f32⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S4x1024x2048, .f32⟩
  | .hbm, ⟨13, _⟩ => ⟨S4x1024x2048, .f32⟩
  | .hbm, ⟨14, _⟩ => ⟨S4x1024x2048, .f32⟩
  | .hbm, ⟨15, _⟩ => ⟨S4x1024x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S4x1024x2048, .f32⟩
  | .hbm, ⟨20, _⟩ => ⟨S4x1024x2048, .f32⟩
  | .hbm, ⟨21, _⟩ => ⟨S4x1024x2048, .f32⟩
  | .hbm, ⟨22, _⟩ => ⟨S4x1024x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x1024x2048, .f32⟩
  | .hbm, ⟨27, _⟩ => ⟨S4x1024x2048, .f32⟩
  | .hbm, ⟨28, _⟩ => ⟨S4x1024x2048, .f32⟩
  | .hbm, ⟨29, _⟩ => ⟨S4x1024x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x1024x2048, .f32⟩
  | .hbm, ⟨34, _⟩ => ⟨S4x1024x2048, .f32⟩
  | .hbm, ⟨35, _⟩ => ⟨S4x1024x2048, .f32⟩
  | .hbm, ⟨36, _⟩ => ⟨S4x1024x2048, .f32⟩
  | .hbm, ⟨37, _⟩ => ⟨S4x1024x2048, .f32⟩
  | .hbm, ⟨38, _⟩ => ⟨S_, .f32⟩
  | .hbm, ⟨39, _⟩ => ⟨S4x1024x2048, .f32⟩
  | .hbm, ⟨40, _⟩ => ⟨S4x1024x2048, .f32⟩
  | .hbm, ⟨41, _⟩ => ⟨S4x1024x2048, .f32⟩
  | .hbm, ⟨42, _⟩ => ⟨S4x1024x512, .f32⟩
  | .hbm, ⟨43, _⟩ => ⟨S4x1024x512, .bf16⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩

abbrev nD : Nat := 1
abbrev τ : Topo := Topo.v7x

variable {F : FTy → Type} [FloatOps F]
-- ==== Proof.Ring.lean ====
/-
# The protocol of the all-reduce, and what every copy carries

The kernel runs on four devices. Device `c` has two partners: `pA c` (0↔1, 2↔3) and `pB c` (0↔3, 1↔2). The four
batches are split in two halves, batches 0–1 (half `false`) and 2–3 (half `true`), and in each half a device keeps one
batch (`kb`) and gives the other (`nb`) away. The 24 copies are numbered `t = 8·phase + 4·half + chunk`, a chunk being
256 rows:

* phase 0: the partial products of the given batch go into the partner's buffer `st1`;
* phase 1: the pair sums of the kept batch go to the other partner's buffer `st2`;
* phase 2: the complete sums of the kept batch go to the partner's result array, whose given batch it is.

Every copy has a send and a receive cell of its own, each waited for once by the device it lies on; the barrier cell gets
one unit from each partner and is waited for once. What is handed over:

* barrier, the unit from partner `d`: the rows of `d`'s `st1` and `st2` that the waiter copies into;
* receive cell, phase 0: the rows written in `st1` AND the rows of the sender's result array that were read (so that
  phase 2 may write them); phases 1 and 2: the rows written;
* send cell, phase 0: nothing; phases 1 and 2: the rows that were read.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdxCore
public import Idealize.ShloMosaic.Lib.Tactic

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-- The round state of the cells, beside the pipeline library's own copy. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Partners and batches -/

set_option backward.proofsInPublic true in
/-- The first partner: 0↔1, 2↔3. -/
def pA (c : Dev nD) : Dev nD := ⟨(c.val + 1 + 2 * (c.val % 2)) % 4, Nat.mod_lt _ (by decide)⟩
set_option backward.proofsInPublic true in
/-- The second partner: 0↔3, 1↔2. -/
def pB (c : Dev nD) : Dev nD := ⟨(3 - c.val) % 4, Nat.mod_lt _ (by decide)⟩

/-- The partner of half `h`. -/
def peer (h : Bool) (c : Dev nD) : Dev nD := if h then pB c else pA c

/-- The batch of half `h` that a device keeps, and the one it gives away. -/
def kb (h : Bool) (c : Dev nD) : ℕ := if h then 2 + c.val / 2 else ((c.val + 1) / 2) % 2
def nb (h : Bool) (c : Dev nD) : ℕ := if h then 3 - c.val / 2 else 1 - ((c.val + 1) / 2) % 2

theorem peer_peer : ∀ (h : Bool) (c : Dev nD), peer h (peer h c) = c := by decide
theorem kb_peer : ∀ (h : Bool) (c : Dev nD), kb h (peer h c) = nb h c := by decide
theorem nb_peer : ∀ (h : Bool) (c : Dev nD), nb h (peer h c) = kb h c := by decide
theorem kb_other : ∀ (h : Bool) (c : Dev nD), kb h (peer (!h) c) = kb h c := by decide
theorem kb_lt : ∀ (h : Bool) (c : Dev nD), kb h c < 4 := by decide
theorem nb_lt : ∀ (h : Bool) (c : Dev nD), nb h c < 4 := by decide

def peerEquiv (h : Bool) : Dev nD ≃ Dev nD := ⟨peer h, peer h, peer_peer h, peer_peer h⟩

/-! ## The copies -/

abbrev phase (t : Fin 24) : ℕ := t.val / 8
abbrev half (t : Fin 24) : Bool := decide (t.val / 4 % 2 = 1)
abbrev row (t : Fin 24) : ℕ := 256 * (t.val % 4)

/-- The half as the number of a slot in a two-slot buffer. -/
abbrev slot (h : Bool) : ℕ := if h then 1 else 0

/-- Whom copy `t` of device `c` goes to, and so whom the copy `t` that lands on `c` comes from. -/
def other (t : Fin 24) (c : Dev nD) : Dev nD := if phase t = 1 then peer (!half t) c else peer (half t) c

theorem other_other : ∀ (t : Fin 24) (c : Dev nD), other t (other t c) = c := by decide

def otherEquiv (t : Fin 24) : Dev nD ≃ Dev nD := ⟨other t, other t, other_other t, other_other t⟩

/-- The order a device starts its copies in, and the order it waits for their landings in. -/
abbrev sendOrder : List (Fin 24) := [0, 1, 4, 5, 2, 3, 6, 7, 8, 12, 9, 13, 10, 14, 11, 15, 16, 20, 17, 21, 18, 22, 19, 23]
abbrev waitOrder : List (Fin 24) := [0, 4, 1, 5, 2, 6, 3, 7, 8, 12, 9, 13, 10, 14, 11, 15, 16, 17, 18, 19, 20, 21, 22, 23]

/-! ## Buffers and cells -/

abbrev xM : Memref sig .tc .vmem S4x1024x512 .f32 := Memref.whole cc0_stg0_0
abbrev kM : Memref sig .tc .vmem S4x512 .f32 := Memref.whole cc0_stg1_0
abbrev wM : Memref sig .tc .vmem S512x512 .f32 := Memref.whole cc0_stg2_0
abbrev oM : Memref sig .tc .vmem S4x1024x512 .bf16 := Memref.whole cc0_stg3_0
abbrev aM : Memref sig .tc .vmem S2x1024x512 .f32 := Memref.whole cc0_scratch0
abbrev s1M : Memref sig .tc .vmem S2x1024x512 .bf16 := Memref.whole cc0_scratch1
abbrev s2M : Memref sig .tc .vmem S2x1024x512 .bf16 := Memref.whole cc0_scratch2

abbrev barS : Sem sig := (SemArray.scalar (sig.barrier 0 rfl) : Sems sig S_).sem
set_option backward.proofsInPublic true in
abbrev sS (t : Fin 24) : DmaSem sig := ⟨4 + t.val, lt_of_lt_of_le (Nat.add_lt_add_left t.isLt 4) (by decide)⟩
set_option backward.proofsInPublic true in
abbrev rS (t : Fin 24) : DmaSem sig := ⟨28 + t.val, lt_of_lt_of_le (Nat.add_lt_add_left t.isLt 28) (by decide)⟩

abbrev barCell (c : Dev nD) : GSem nD τ sig := ((c : Thread nD τ), .reg barS)
abbrev sendCell (c : Dev nD) (t : Fin 24) : GSem nD τ sig := ((c : Thread nD τ), .dma (sS t))
abbrev recvCell (c : Dev nD) (t : Fin 24) : GSem nD τ sig := ((c : Thread nD τ), .dma (rS t))

/-- The scoped cells: (`false`, `t`) the send cell of copy `t`, (`true`, `t`) its receive cell. -/
abbrev osem : Bool × Fin 24 → SemLoc sig := fun k => .dma (if k.1 then rS k.2 else sS k.2)
/-- With the barrier cell, all of them. -/
abbrev csem : Option (Bool × Fin 24) → SemLoc sig := fun k => k.elim (.reg barS) osem
abbrev kcell (ck : Dev nD × Option (Bool × Fin 24)) : GSem nD τ sig := ((ck.1 : Thread nD τ), csem ck.2)

/-- What a copy credits its two cells with. -/
abbrev N : ℕ := ((s1M.slice (Rect.unit (s := S2x1024x512) ![0, 0, 0] S1x256x512.size inb_S2x1024x512_S1x256x512_0_0_0) (fun _ => rfl)).squeeze S256x512 squeezes_S1x256x512_S256x512).view.dmaCredit
theorem N_pos : 0 < N := View.dmaCredit_pos _ (by decide)

/-! ## Contents

Written as functions of natural-number coordinates, so that a buffer, a rectangle of it and a payload over the rectangle
are all read off the same function. -/

/-- A buffer of rank 3 holding `g` at its coordinates. -/
def buf {d : Fin 3 → ℕ} {α : Type} (g : ℕ → ℕ → ℕ → α) : Shape.Idx ⟨3, d⟩ → α := fun i => g (i 0).val (i 1).val (i 2).val

/-- The 256 rows of `g` from row `r`. -/
def win {α : Type} (g : ℕ → ℕ → α) (r : ℕ) : Shape.Idx S1x256x512 → α := fun i => g (r + (i 1).val) (i 2).val

/-- The inputs as a device stages them. -/
def xstg (c : Dev nD) : Vec F S4x1024x512 .f32 := (win0_0.blk (0 : Fin 1)).view.read (Elt F) ((s₀ m ρ).mem ((c : Thread nD τ).loc main_arg0))
def kstg (c : Dev nD) : Vec F S4x512 .f32 := (win0_1.blk (0 : Fin 1)).view.read (Elt F) ((s₀ m ρ).mem ((c : Thread nD τ).loc main_arg1))
def wstg (c : Dev nD) : Vec F S512x512 .f32 := (win0_2.blk (0 : Fin 1)).view.read (Elt F) ((s₀ m ρ).mem ((c : Thread nD τ).loc main_arg2))

/-- Batch `b` of `x`, and row `t` of `k`. -/
def xw (c : Dev nD) (b : ℕ) : Vec F S1x1024x512 .f32 := fun i => xstg m ρ c (ix3 (Fin.ofNat 4 b) (i 1) (i 2))
def kw (c : Dev nD) (t : Fin 4) : Vec F S1x512 .f32 := fun i => kstg m ρ c (ix2 t (i 1))

/-- The gated convolution of batch `b`. -/
def gated (c : Dev nD) (b : ℕ) : FVec F S1024x512 .f32 :=
  k0_pay1 (xw m ρ c b) (kw m ρ c 3) (kw m ρ c 0) (kw m ρ c 1) (kw m ρ c 2)

/-- Its product with the device's rows of the projection: in the narrow type, computed in two halves of rows, and in the
    wide type, whole. -/
def part (c : Dev nD) (b r j : ℕ) : F .bf16 :=
  if r < 512 then k0_pay3 (k0_pay2 (xw m ρ c b) (kw m ρ c 3) (kw m ρ c 0) (kw m ρ c 1) (kw m ρ c 2)) (wstg m ρ c) (ix3 0 (Fin.ofNat 512 r) (Fin.ofNat 512 j))
  else k0_pay9 (gated m ρ c b) (wstg m ρ c) (ix3 0 (Fin.ofNat 512 (r - 512)) (Fin.ofNat 512 j))
def wide (c : Dev nD) (b r j : ℕ) : F .f32 :=
  k0_pay13 (k0_pay11 (xw m ρ c b)) (k0_pay12 (xw m ρ c b) (kw m ρ c 3) (kw m ρ c 0)) (Scalar.ofBits .f32 0x00000000#32)
    (kw m ρ c 1) (kw m ρ c 2) (wstg m ρ c) (ix3 0 (Fin.ofNat 1024 r) (Fin.ofNat 512 j))

/-- Row `r` of the pair sum and of the complete sum, as the chunk that holds it is computed. -/
def pairSum (c : Dev nD) (h : Bool) (r j : ℕ) : F .bf16 :=
  k0_pay17 (win (wide m ρ c (kb h c)) (256 * (r / 256))) (win (part m ρ (peer h c) (kb h c)) (256 * (r / 256)))
    (ix3 0 (Fin.ofNat 256 r) (Fin.ofNat 512 j))
def total (c : Dev nD) (h : Bool) (r j : ℕ) : F .bf16 :=
  k0_pay28 (win (wide m ρ c (kb h c)) (256 * (r / 256))) (win (part m ρ (peer h c) (kb h c)) (256 * (r / 256)))
    (win (pairSum m ρ (peer (!h) c) h) (256 * (r / 256))) (ix3 0 (Fin.ofNat 256 r) (Fin.ofNat 512 j))

/-- The contents of the buffers: the result array in its three states (meant for the kept batches in the last two), the
    accumulator and the two landing buffers. -/
def oPart (c : Dev nD) : Vec F S4x1024x512 .bf16 := buf (part m ρ c)
def oPair (c : Dev nD) : Vec F S4x1024x512 .bf16 := buf fun b => pairSum m ρ c (decide (2 ≤ b))
def oTotal (c : Dev nD) : Vec F S4x1024x512 .bf16 := buf fun b => total m ρ c (decide (2 ≤ b))
def accC (c : Dev nD) : Vec F S2x1024x512 .f32 := buf fun s => wide m ρ c (kb (decide (s = 1)) c)
def st1C (c : Dev nD) : Vec F S2x1024x512 .bf16 := buf fun s => part m ρ (peer (decide (s = 1)) c) (kb (decide (s = 1)) c)
def st2C (c : Dev nD) : Vec F S2x1024x512 .bf16 := buf fun s => pairSum m ρ (peer (!decide (s = 1)) c) (decide (s = 1))

theorem half_kb : ∀ (h : Bool) (c : Dev nD), decide (2 ≤ kb h c) = h := by decide
theorem half_nb : ∀ (h : Bool) (c : Dev nD), decide (2 ≤ nb h c) = h := by decide
theorem half_slot : ∀ h : Bool, decide (slot h = 1) = h := by decide

/-! ## Regions -/

/-- Rows `r` to `r + n` of batch `b`, in a buffer of rank 3. -/
def rows {d : Fin 3 → ℕ} (b r n : ℕ) : Finset (Shape.Idx ⟨3, d⟩) :=
  Finset.univ.filter fun i => (i 0).val = b ∧ r ≤ (i 1).val ∧ (i 1).val < r + n

theorem mem_rows {d : Fin 3 → ℕ} {b r n : ℕ} {i : Shape.Idx ⟨3, d⟩} :
    i ∈ (rows b r n : Finset (Shape.Idx ⟨3, d⟩)) ↔ (i 0).val = b ∧ r ≤ (i 1).val ∧ (i 1).val < r + n := by
  simp [rows]

def oPts (c : Dev nD) (b r n : ℕ) (f : Vec F S4x1024x512 .bf16) : sProp 𝕄 := ((c : Thread nD τ).loc cc0_stg3_0) ↦[rows b r n]{fullShare} f
def aPts (c : Dev nD) (b r n : ℕ) (f : Vec F S2x1024x512 .f32) : sProp 𝕄 := ((c : Thread nD τ).loc cc0_scratch0) ↦[rows b r n]{fullShare} f
def s1Pts (c : Dev nD) (b r n : ℕ) (f : Vec F S2x1024x512 .bf16) : sProp 𝕄 := ((c : Thread nD τ).loc cc0_scratch1) ↦[rows b r n]{fullShare} f
def s2Pts (c : Dev nD) (b r n : ℕ) (f : Vec F S2x1024x512 .bf16) : sProp 𝕄 := ((c : Thread nD τ).loc cc0_scratch2) ↦[rows b r n]{fullShare} f

omit [FloatOps F] in
instance oPts_storable (c : Dev nD) (b r n : ℕ) (f) : BI.Storable (upEmb : UEmb _ 𝕄) (oPts (F := F) c b r n f) := by unfold oPts; infer_instance
omit [FloatOps F] in
instance s1Pts_storable (c : Dev nD) (b r n : ℕ) (f) : BI.Storable (upEmb : UEmb _ 𝕄) (s1Pts (F := F) c b r n f) := by unfold s1Pts; infer_instance
omit [FloatOps F] in
instance s2Pts_storable (c : Dev nD) (b r n : ℕ) (f) : BI.Storable (upEmb : UEmb _ 𝕄) (s2Pts (F := F) c b r n f) := by unfold s2Pts; infer_instance

/-! ## The schedule -/

/-- A landing buffer's slot, chunk by chunk, at whatever it holds. -/
def s1Any (c : Dev nD) (h : Bool) : sProp 𝕄 := iprop(∃ f, s1Pts (F := F) c (slot h) 0 1024 f)
def s2Any (c : Dev nD) (h : Bool) : sProp 𝕄 := iprop(∃ f, s2Pts (F := F) c (slot h) 0 1024 f)

/-- What the unit of `peer h c` hands `c` at its barrier: the slots of `peer h c` that `c` copies into. -/
def barPay (c : Dev nD) (h : Bool) : sProp 𝕄 := iprop(s1Any (peer h c) h ∗ s2Any (peer h c) (!h))
/-- What copy `t` leaves at the cells of the device that sent it and of the device it lands on. -/
def sendPay (c : Dev nD) (t : Fin 24) : sProp 𝕄 :=
  if phase t = 0 then iprop(emp) else if phase t = 1 then oPts c (kb (half t) c) (row t) 256 (oPair m ρ c) else oPts c (kb (half t) c) (row t) 256 (oTotal m ρ c)
def recvPay (c : Dev nD) (t : Fin 24) : sProp 𝕄 :=
  if phase t = 0 then iprop(s1Pts c (slot (half t)) (row t) 256 (st1C m ρ c) ∗ oPts (peer (half t) c) (kb (half t) c) (row t) 256 (oPart m ρ (peer (half t) c)))
  else if phase t = 1 then s2Pts c (slot (half t)) (row t) 256 (st2C m ρ c)
  else oPts c (nb (half t) c) (row t) 256 (oTotal m ρ (peer (half t) c))

/-- The number of the copy whose send or receive cell a DMA semaphore is. -/
def copyOf (s : SemLoc sig) (base : ℕ) : Fin 24 := match s with | .dma q => Fin.ofNat 24 (q.val - base) | .reg _ => 0

abbrev IsBar (g : GSem nD τ sig) : Prop := g.1.2 = .tc ∧ g.2 = .reg barS
abbrev IsSend (s : SemLoc sig) : Prop := ∃ t, s = .dma (sS t)
abbrev IsRecv (s : SemLoc sig) : Prop := ∃ t, s = .dma (rS t)
abbrev IsCopy (g : GSem nD τ sig) : Prop := g.1.2 = .tc ∧ (IsSend g.2 ∨ IsRecv g.2)

/-- One round: a barrier cell has two duties of one unit, duty `h` paid by `peer h`; a send or receive cell the one duty
    `false`, of a chunk's credit. -/
def sched : Rounds.Schedule (GSem nD τ sig) Bool 𝕄 where
  duties g r := if r = 0 ∧ IsBar g then Finset.univ else if r = 0 ∧ IsCopy g then {false} else ∅
  unitless _ := False
  amount g _ _ := if g.2 = .reg barS then 1 else N
  payload g _ d :=
    if g.2 = .reg barS then barPay g.1.1 d
    else if IsRecv g.2 then recvPay m ρ g.1.1 (copyOf g.2 28)
    else if IsSend g.2 then sendPay m ρ g.1.1 (copyOf g.2 4)
    else iprop(emp)
  amount_pos g _ _ _ := by
    by_cases h : g.2 = .reg barS
    · rw [if_pos h]; exact Nat.one_pos
    · rw [if_neg h]; exact N_pos

omit [FloatOps F] in
instance barPay_storable (c : Dev nD) (h : Bool) : BI.Storable (upEmb : UEmb _ 𝕄) (barPay (F := F) c h) := by
  unfold barPay s1Any s2Any; infer_instance
instance sendPay_storable (c : Dev nD) (t : Fin 24) : BI.Storable (upEmb : UEmb _ 𝕄) (sendPay m ρ c t) := by
  unfold sendPay; (repeat' split) <;> infer_instance
instance recvPay_storable (c : Dev nD) (t : Fin 24) : BI.Storable (upEmb : UEmb _ 𝕄) (recvPay m ρ c t) := by
  unfold recvPay; (repeat' split) <;> infer_instance

instance sched_payload_storable (g : GSem nD τ sig) (r : ℕ) (d : Bool) : BI.Storable (upEmb : UEmb _ 𝕄) ((sched (F := F) m ρ).payload g r d) := by
  show BI.Storable upEmb (if g.2 = .reg barS then barPay g.1.1 d else if IsRecv g.2 then recvPay m ρ g.1.1 (copyOf g.2 28)
    else if IsSend g.2 then sendPay m ρ g.1.1 (copyOf g.2 4) else iprop(emp))
  (repeat' split) <;> infer_instance

/-! ### Its tables -/

theorem dma_ne_bar (q : DmaSem sig) : (SemLoc.dma q : SemLoc sig) ≠ .reg barS := fun h => by cases h
theorem sS_inj {t u : Fin 24} (h : (SemLoc.dma (sS t) : SemLoc sig) = .dma (sS u)) : t = u := by
  injection h with h; exact Fin.ext (by have := congrArg Fin.val h; simp only at this; omega)
theorem rS_inj {t u : Fin 24} (h : (SemLoc.dma (rS t) : SemLoc sig) = .dma (rS u)) : t = u := by
  injection h with h; exact Fin.ext (by have := congrArg Fin.val h; simp only at this; omega)
theorem sS_ne_rS (t u : Fin 24) : (SemLoc.dma (sS t) : SemLoc sig) ≠ .dma (rS u) := fun h => by
  injection h with h; have := congrArg Fin.val h; simp only at this; omega
theorem copyOf_sS (t : Fin 24) : copyOf (.dma (sS t)) 4 = t := Fin.ext (by
  show (4 + t.val - 4) % 24 = t.val
  have := t.isLt; omega)
theorem copyOf_rS (t : Fin 24) : copyOf (.dma (rS t)) 28 = t := Fin.ext (by
  show (28 + t.val - 28) % 24 = t.val
  have := t.isLt; omega)
theorem sS_not_recv (t : Fin 24) : ¬ IsRecv (.dma (sS t)) := fun ⟨u, h⟩ => sS_ne_rS t u h

section Tables
variable (c : Dev nD) (t : Fin 24)

theorem duties_bar : (sched (F := F) m ρ).duties (barCell c) 0 = Finset.univ := by dsimp only [sched]; exact if_pos ⟨rfl, rfl, rfl⟩
theorem duties_send : (sched (F := F) m ρ).duties (sendCell c t) 0 = {false} := by
  dsimp only [sched]; rw [if_neg (fun h => dma_ne_bar _ h.2.2)]; exact if_pos ⟨rfl, rfl, .inl ⟨t, rfl⟩⟩
theorem duties_recv : (sched (F := F) m ρ).duties (recvCell c t) 0 = {false} := by
  dsimp only [sched]; rw [if_neg (fun h => dma_ne_bar _ h.2.2)]; exact if_pos ⟨rfl, rfl, .inr ⟨t, rfl⟩⟩
theorem duties_later (g : GSem nD τ sig) : ∀ r, 1 ≤ r → (sched (F := F) m ρ).duties g r = ∅ :=
  fun r hr => by dsimp only [sched]; rw [if_neg fun h => by omega, if_neg fun h => by omega]

theorem amount_bar (d : Bool) : (sched (F := F) m ρ).amount (barCell c) 0 d = 1 := by dsimp only [sched]; exact if_pos rfl
theorem amount_send (d : Bool) : (sched (F := F) m ρ).amount (sendCell c t) 0 d = N := by dsimp only [sched]; exact if_neg (dma_ne_bar _)
theorem amount_recv (d : Bool) : (sched (F := F) m ρ).amount (recvCell c t) 0 d = N := by dsimp only [sched]; exact if_neg (dma_ne_bar _)

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (sched (F := F) m ρ).expect (sendCell c t) 0 = N := by
  unfold Schedule.expect Schedule.amountOf; rw [duties_send, Finset.sum_singleton, amount_send]
theorem expect_recv : (sched (F := F) m ρ).expect (recvCell c t) 0 = N := by
  unfold Schedule.expect Schedule.amountOf; rw [duties_recv, Finset.sum_singleton, amount_recv]

theorem payload_bar (d : Bool) : (sched (F := F) m ρ).payload (barCell c) 0 d = barPay c d := by dsimp only [sched]; rw [if_pos rfl]
theorem payload_send (d : Bool) : (sched (F := F) m ρ).payload (sendCell c t) 0 d = sendPay m ρ c t := by
  dsimp only [sched]; rw [if_neg (dma_ne_bar _), if_neg (sS_not_recv t), if_pos ⟨t, rfl⟩, copyOf_sS]
theorem payload_recv (d : Bool) : (sched (F := F) m ρ).payload (recvCell c t) 0 d = recvPay m ρ c t := by
  dsimp only [sched]; rw [if_neg (dma_ne_bar _), if_pos ⟨t, rfl⟩, copyOf_rS]

theorem rest_bar : bigSep ((sched (F := F) m ρ).duties (barCell c) 0 \ ∅) (fun d => (sched (F := F) m ρ).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((sched (F := F) m ρ).duties (sendCell c t) 0 \ ∅) (fun d => (sched (F := F) m ρ).payload (sendCell c t) 0 d) = sendPay m ρ c t := by
  rw [Finset.sdiff_empty, duties_send, bigSep_singleton, payload_send]
theorem rest_recv : bigSep ((sched (F := F) m ρ).duties (recvCell c t) 0 \ ∅) (fun d => (sched (F := F) m ρ).payload (recvCell c t) 0 d) = recvPay m ρ c t := by
  rw [Finset.sdiff_empty, duties_recv, bigSep_singleton, payload_recv]

end Tables

/-! ## What a device owes; the levels -/

/-- What is owed for the copies of a list not yet started: each one's landing credit. -/
def owedL (c : Dev nD) : List (Fin 24) → CellTallies nD τ sig Unit
  | [] => 0
  | t :: l => owedL c l + tallyAt (recvCell (other t c) t) () N

/-- At launch: all copies, and a unit to each partner's barrier cell. -/
def O₁ (c : Dev nD) : CellTallies nD τ sig Unit := owedL c sendOrder + tallyAt (barCell (pB c)) () 1
def O₀ (c : Dev nD) : CellTallies nD τ sig Unit := O₁ c + tallyAt (barCell (pA c)) () 1

def L (g : GSem nD τ sig) : Finset Unit := if g.1.2 = .tc then {()} else ∅
/-- Barrier cells at 1, receive cells at 2 plus the copy's phase, all others at 0. -/
def lv (g : GSem nD τ sig) (_ : Unit) : ℕ := if g.2 = .reg barS then 1 else if IsRecv g.2 then 2 + phase (copyOf g.2 28) else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (t : Fin 24) : lv (recvCell c t) () = 2 + phase t := by
  unfold lv; rw [if_neg (dma_ne_bar _), if_pos ⟨t, rfl⟩, copyOf_rS]
theorem lv_other (c : Dev nD) (q : DmaSem sig) (h : ¬ IsRecv (.dma q)) : lv ((c : Thread nD τ), .dma q) () = 0 := by
  unfold lv; rw [if_neg (dma_ne_bar _), if_neg h]

theorem owedL_pos {c : Dev nD} {g : GSem nD τ sig} {u : Unit} : ∀ {l : List (Fin 24)}, 0 < owedL c l g u → ∃ t ∈ l, g = recvCell (other t c) t
  | [], h => absurd h (Nat.lt_irrefl 0)
  | t :: l, h => by
    unfold owedL at h
    rw [Pi.add_apply, Finsupp.add_apply, tallyAt_apply] at h
    by_cases hg : g = recvCell (other t c) t ∧ u = ()
    · exact ⟨t, List.mem_cons_self, hg.1⟩
    · rw [if_neg hg, Nat.add_zero] at h
      obtain ⟨t', ht', e⟩ := owedL_pos h
      exact ⟨t', List.mem_cons_of_mem _ ht', e⟩

omit [FloatOps F] in
/-- A device may wait on a cell below the landing credits it owes. -/
theorem mayWait_list (c : Dev nD) (sm : SemLoc sig) (l : List (Fin 24)) (h : ∀ t ∈ l, lv ((c : Thread nD τ), sm) () < 2 + phase t) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by obtain ⟨t, _, rfl⟩ := owedL_pos hg; rw [L_tc]; exact Finset.mem_singleton_self _)
    (fun p hp => by rw [Finset.mem_singleton.mp hp])
    (fun g u hg => by obtain ⟨t, ht, rfl⟩ := owedL_pos hg; rw [lv_recv]; exact h t ht)

theorem O₀_pos {c : Dev nD} {g : GSem nD τ sig} {u : Unit} (h : 0 < O₀ c g u) :
    (∃ t, g = recvCell (other t c) t) ∨ g = barCell (pB c) ∨ g = barCell (pA c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  obtain ⟨t, _, e⟩ := owedL_pos h
  exact hn.1 ⟨t, e⟩

omit [FloatOps F] in
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | rfl | rfl <;> exact Finset.mem_singleton_self _)
      (fun p hp => by rw [Finset.mem_singleton.mp hp, lv_other _ _ hq])
      (fun g u hg => by
        rcases O₀_pos hg with ⟨t, rfl⟩ | rfl | rfl
        · rw [lv_recv]; omega
        · rw [lv_bar]; omega
        · rw [lv_bar]; omega)
  · rw [MayWait_zero]; iintro -; iempintro

end Cert.KernelIdeal.Reduce

end
-- ==== Proof.Ops.lean ====
/-
# One rule for each kind of step

A load or store of rows of a buffer, a copy of a chunk and the waits for it, each stated once over the half, the row and
the copy's number, at offsets equal to the canonical ones.
-/
module

public import proofs.«01_k».proof.Proof.Ring

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Rows -/

theorem rect_rows {d : Fin 3 → ℕ} (hd : d 2 = 512) {off : Fin 3 → ℕ} {b r n : ℕ} (hoff : off = ![b, r, 0])
    (inb : ∀ a, off a + (![1, n, 512] : Fin 3 → ℕ) a ≤ d a) : (Rect.unit (s := ⟨3, d⟩) off ![1, n, 512] inb).set = rows b r n := by
  subst hoff
  ext i
  rw [Rect.mem_set_unit, mem_rows, Fin.forall_fin_succ, Fin.forall_fin_succ, Fin.forall_fin_succ]
  have h2 : (i 2).val < 512 := lt_of_lt_of_eq (i 2).isLt hd
  show ((b ≤ (i 0).val ∧ (i 0).val < b + 1) ∧ (r ≤ (i 1).val ∧ (i 1).val < r + n) ∧ (0 ≤ (i 2).val ∧ (i 2).val < 0 + 512) ∧ _) ↔ _
  constructor
  · rintro ⟨⟨h, h'⟩, ⟨h3, h4⟩, _⟩; exact ⟨by omega, h3, h4⟩
  · rintro ⟨h, h3, h4⟩; exact ⟨⟨by omega, by omega⟩, ⟨h3, h4⟩, ⟨Nat.zero_le _, by omega⟩, fun a => a.elim0⟩

theorem rows_add {d : Fin 3 → ℕ} (b r n n' : ℕ) : (rows b r (n + n') : Finset (Shape.Idx ⟨3, d⟩)) = rows b r n ∪ rows b (r + n) n' := by
  ext i; rw [Finset.mem_union, mem_rows, mem_rows, mem_rows]; omega
theorem rows_disjoint {d : Fin 3 → ℕ} (b r n n' : ℕ) : Disjoint (rows b r n : Finset (Shape.Idx ⟨3, d⟩)) (rows b (r + n) n') :=
  Finset.disjoint_left.mpr fun i h h' => by rw [mem_rows] at h h'; omega
theorem rows_disjoint' {d : Fin 3 → ℕ} {b b' : ℕ} (h : b ≠ b') (r n r' n' : ℕ) : Disjoint (rows b r n : Finset (Shape.Idx ⟨3, d⟩)) (rows b' r' n') :=
  Finset.disjoint_left.mpr fun i h h' => by rw [mem_rows] at h h'; omega
theorem rows_subset {d : Fin 3 → ℕ} {b r n r' n' : ℕ} (h : r' ≤ r) (h' : r + n ≤ r' + n') : (rows b r n : Finset (Shape.Idx ⟨3, d⟩)) ⊆ rows b r' n' :=
  fun i hi => by rw [mem_rows] at hi ⊢; omega

omit [FloatOps F] in
/-- A set of elements, held as two disjoint sets that make it up. -/
theorem pts_union {ℓ : Loc nD τ sig} {S I J : Finset (Idx ℓ)} {f : Buf (Elt F) ℓ} (hS : ∀ i, i ∈ S ↔ i ∈ I ∨ i ∈ J) (h : Disjoint I J) :
    (ℓ ↦[S]{fullShare} f : sProp 𝕄) = iprop((ℓ ↦[I]{fullShare} f) ∗ ℓ ↦[J]{fullShare} f) := by
  obtain rfl : S = I ∪ J := by ext i; rw [hS, Finset.mem_union]
  have e : (ℓ ↦[I ∪ J]{fullShare} f : sProp 𝕄) ⊣⊢ iprop((ℓ ↦[I]{fullShare} f) ∗ ℓ ↦[J]{fullShare} f) := pointsTo_union h
  exact e.1.antisymm e.2

omit [FloatOps F] in
theorem oPts_split (c : Dev nD) (b r n n' : ℕ) (f) : (oPts (F := F) c b r (n + n') f : sProp 𝕄) = iprop(oPts c b r n f ∗ oPts c b (r + n) n' f) := by
  unfold oPts
  exact pts_union (fun i => by rw [mem_rows, mem_rows, mem_rows]; omega) (rows_disjoint b r n n')
omit [FloatOps F] in
theorem s1Pts_split (c : Dev nD) (b r n n' : ℕ) (f) : (s1Pts (F := F) c b r (n + n') f : sProp 𝕄) = iprop(s1Pts c b r n f ∗ s1Pts c b (r + n) n' f) := by
  unfold s1Pts
  exact pts_union (fun i => by rw [mem_rows, mem_rows, mem_rows]; omega) (rows_disjoint b r n n')
omit [FloatOps F] in
theorem s2Pts_split (c : Dev nD) (b r n n' : ℕ) (f) : (s2Pts (F := F) c b r (n + n') f : sProp 𝕄) = iprop(s2Pts c b r n f ∗ s2Pts c b (r + n) n' f) := by
  unfold s2Pts
  exact pts_union (fun i => by rw [mem_rows, mem_rows, mem_rows]; omega) (rows_disjoint b r n n')

omit [FloatOps F] in
theorem oPts_half (c : Dev nD) (b r : ℕ) (f) : (oPts (F := F) c b r 512 f : sProp 𝕄) = iprop(oPts c b r 256 f ∗ oPts c b (r + 256) 256 f) := oPts_split c b r 256 256 f
omit [FloatOps F] in
theorem oPts_halves (c : Dev nD) (b : ℕ) (f) : (oPts (F := F) c b 0 1024 f : sProp 𝕄) = iprop(oPts c b 0 512 f ∗ oPts c b 512 512 f) := oPts_split c b 0 512 512 f
omit [FloatOps F] in
theorem oPts_chunks (c : Dev nD) (b : ℕ) (f) : (oPts (F := F) c b 0 1024 f : sProp 𝕄)
    = iprop((oPts c b 0 256 f ∗ oPts c b 256 256 f) ∗ oPts c b 512 256 f ∗ oPts c b 768 256 f) := by
  rw [oPts_halves, oPts_half, oPts_half]
omit [FloatOps F] in
theorem s1Pts_chunks (c : Dev nD) (b : ℕ) (f) : (s1Pts (F := F) c b 0 1024 f : sProp 𝕄)
    = iprop((s1Pts c b 0 256 f ∗ s1Pts c b 256 256 f) ∗ s1Pts c b 512 256 f ∗ s1Pts c b 768 256 f) := by
  rw [show (1024 : ℕ) = 512 + 512 from rfl, s1Pts_split, show (512 : ℕ) = 256 + 256 from rfl, s1Pts_split, s1Pts_split]
omit [FloatOps F] in
theorem s2Pts_chunks (c : Dev nD) (b : ℕ) (f) : (s2Pts (F := F) c b 0 1024 f : sProp 𝕄)
    = iprop((s2Pts c b 0 256 f ∗ s2Pts c b 256 256 f) ∗ s2Pts c b 512 256 f ∗ s2Pts c b 768 256 f) := by
  rw [show (1024 : ℕ) = 512 + 512 from rfl, s2Pts_split, show (512 : ℕ) = 256 + 256 from rfl, s2Pts_split, s2Pts_split]

omit [FloatOps F] in
theorem oPts_congr (c : Dev nD) {b r n : ℕ} {f g : Vec F S4x1024x512 .bf16} (h : ∀ i, i ∈ rows b r n → f i = g i) :
    (oPts (F := F) c b r n f : sProp 𝕄) = oPts c b r n g := pointsTo_congr h

/-- What a view writes is what `g` holds there, when the payload is. -/
theorem write_eq {κ : Kind} {sp : Space} {s : Shape} {e : EltTy} (v : View sig κ sp s e) (f : v.ty.Contents (Elt F)) (w : s.Idx → Elt F e) (g : v.ty.Contents (Elt F))
    (h : ∀ x, _root_.cast (congrArg (Elt F) v.elt_eq.symm) (w x) = g (v.emb x)) : ∀ i ∈ v.set, v.write (Elt F) f w Finset.univ i = g i := fun i hi => by
  obtain ⟨x, -, rfl⟩ := Finset.mem_map.mp hi
  rw [View.write_emb_of_mem _ _ (Finset.mem_univ x), h]

/-! ## Loads and stores -/

section Mem

variable (c : Dev nD) {k : PUnit → Prog (TpuEff nD τ sig (Elt F) Λ₀ .tc) PUnit}

abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

abbrev xPts : sProp 𝕄 := ((c : Thread nD τ).loc cc0_stg0_0) ↦{fullShare} (xstg m ρ c)
abbrev kPts : sProp 𝕄 := ((c : Thread nD τ).loc cc0_stg1_0) ↦{fullShare} (kstg m ρ c)
abbrev wPts : sProp 𝕄 := ((c : Thread nD τ).loc cc0_stg2_0) ↦{fullShare} (wstg m ρ c)

theorem load_x {α : Type} {b : ℕ} {off : Fin 3 → ℕ} (hoff : off = ![b, 0, 0]) (hb : b < 4) {inb} {hl}
    {k : Vec F S1x1024x512 .f32 → Prog (TpuEff nD τ sig (Elt F) Λ₀ .tc) α} {Q : α → sProp 𝕄} :
    (xPts m ρ c) ⊢ iprop((xPts m ρ c -∗ WP c (k (xw m ρ c b)) Q)
      -∗ WP c (.op (.load xM (Rect.unit (s := S4x1024x512) off S1x1024x512.size inb).toLoadRect hl) k) Q) := by
  subst hoff
  have e : xM.view.readAt (Elt F) (Rect.unit (s := S4x1024x512) ![b, 0, 0] S1x1024x512.size inb).toLoadRect (xstg m ρ c) = xw m ρ c b := by
    funext x
    refine congrArg (xstg m ρ c) (funext fun a => Fin.ext ?_)
    fin_cases a
    · show b + 1 * (x 0).val = b % 4
      have : (x 0).val < 1 := (x 0).isLt
      rw [Nat.mod_eq_of_lt hb]; omega
    · show 0 + 1 * (x 1).val = (x 1).val; omega
    · show 0 + 1 * (x 2).val = (x 2).val; omega
  iintro Hx Hk
  iapply (wp_load 𝒱₀ (c : Thread nD τ) none Set.univ (m := xM) (Finset.subset_univ _)) $$ Hx
  rw [e]; iexact Hk

theorem load_k {α : Type} (t : Fin 4) {off : Fin 2 → ℕ} (hoff : off = ![t.val, 0]) {inb} {hl}
    {k : Vec F S1x512 .f32 → Prog (TpuEff nD τ sig (Elt F) Λ₀ .tc) α} {Q : α → sProp 𝕄} :
    (kPts m ρ c) ⊢ iprop((kPts m ρ c -∗ WP c (k (kw m ρ c t)) Q)
      -∗ WP c (.op (.load kM (Rect.unit (s := S4x512) off S1x512.size inb).toLoadRect hl) k) Q) := by
  subst hoff
  have e : kM.view.readAt (Elt F) (Rect.unit (s := S4x512) ![t.val, 0] S1x512.size inb).toLoadRect (kstg m ρ c) = kw m ρ c t := by
    funext x
    refine congrArg (kstg m ρ c) (funext fun a => Fin.ext ?_)
    fin_cases a
    · show t.val + 1 * (x 0).val = t.val
      have : (x 0).val < 1 := (x 0).isLt
      omega
    · show 0 + 1 * (x 1).val = (x 1).val; omega
  iintro Hx Hk
  iapply (wp_load 𝒱₀ (c : Thread nD τ) none Set.univ (m := kM) (Finset.subset_univ _)) $$ Hx
  rw [e]; iexact Hk

theorem load_w {α : Type} {inb} {hl} {k : Vec F S512x512 .f32 → Prog (TpuEff nD τ sig (Elt F) Λ₀ .tc) α} {Q : α → sProp 𝕄} :
    (wPts m ρ c) ⊢ iprop((wPts m ρ c -∗ WP c (k (wstg m ρ c)) Q)
      -∗ WP c (.op (.load wM (Rect.unit (s := S512x512) ![0, 0] S512x512.size inb).toLoadRect hl) k) Q) := by
  have e : wM.view.readAt (Elt F) (Rect.unit (s := S512x512) ![0, 0] S512x512.size inb).toLoadRect (wstg m ρ c) = wstg m ρ c :=
    Memref.readAt_unit_zero (Elt F) cc0_stg2_0 (by funext a; fin_cases a <;> rfl) inb (wstg m ρ c)
  iintro Hx Hk
  iapply (wp_load 𝒱₀ (c : Thread nD τ) none Set.univ (m := wM) (Finset.subset_univ _)) $$ Hx
  rw [e]; iexact Hk

omit [FloatOps F] in
theorem access_rows {d : Fin 3 → ℕ} (hd : d 2 = 512) {off : Fin 3 → ℕ} {b r n : ℕ} (hoff : off = ![b, r, 0])
    (inb : ∀ a, off a + (![1, n, 512] : Fin 3 → ℕ) a ≤ d a) {r' n' : ℕ} (h : r' ≤ r) (h' : r + n ≤ r' + n') :
    (Rect.unit (s := ⟨3, d⟩) off ![1, n, 512] inb).set ⊆ rows b r' n' := by rw [rect_rows hd hoff]; exact rows_subset h h'

/-- A load of the result array whose value isn't used. -/
theorem load_o {α : Type} {b r n : ℕ} {off : Fin 3 → ℕ} (hoff : off = ![b, r, 0]) {inb} {hl} {f : Vec F S4x1024x512 .bf16}
    {k : Vec F ⟨3, ![1, n, 512]⟩ .bf16 → Prog (TpuEff nD τ sig (Elt F) Λ₀ .tc) α} {Q : α → sProp 𝕄} :
    (oPts c b r n f) ⊢ iprop((∀ v, oPts c b r n f -∗ WP c (k v) Q)
      -∗ WP c (.op (.load oM (Rect.unit (s := S4x1024x512) off ![1, n, 512] inb).toLoadRect hl) k) Q) := by
  iintro Hx Hk
  unfold oPts
  iapply (wp_load_rect 𝒱₀ (c : Thread nD τ) none Set.univ (m := oM) (r := (Rect.unit (s := S4x1024x512) off ![1, n, 512] inb)) (S := (rows b r n : Finset (Shape.Idx S4x1024x512)))
    ((View.set_slice_whole cc0_stg3_0 _).subset.trans (access_rows rfl hoff inb le_rfl le_rfl))) $$ Hx
  iintro Hx; iapply Hk; iexact Hx

/-- A store of rows of the result array holding there what `g` does. -/
theorem store_o {α : Type} {b r n : ℕ} (g : ℕ → ℕ → ℕ → F .bf16) {off : Fin 3 → ℕ} (hoff : off = ![b, r, 0]) {inb} {hx} {hm} {f : Vec F S4x1024x512 .bf16}
    {w : Vec F ⟨3, ![1, n, 512]⟩ .bf16} (hw : ∀ x, w x = g b (r + (x 1).val) (x 2).val)
    {k : PUnit → Prog (TpuEff nD τ sig (Elt F) Λ₀ .tc) α} {Q : α → sProp 𝕄} :
    (oPts c b r n f) ⊢ iprop((oPts c b r n (buf g) -∗ WP c (k ⟨⟩) Q)
      -∗ WP c (.op (.store oM (Rect.unit (s := S4x1024x512) off ![1, n, 512] inb) w Finset.univ hx hm) k) Q) := by
  have hset : (oM.access (Rect.unit (s := S4x1024x512) off ![1, n, 512] inb)).set = rows b r n :=
    (View.set_slice_whole cc0_stg3_0 _).trans (rect_rows rfl hoff inb)
  have e : (oPts (F := F) c b r n ((oM.access (Rect.unit (s := S4x1024x512) off ![1, n, 512] inb)).write (Elt F) f w Finset.univ) : sProp 𝕄) = oPts c b r n (buf g) :=
    pointsTo_congr fun i hi => write_eq (oM.access (Rect.unit (s := S4x1024x512) off ![1, n, 512] inb)) f w (buf g) (fun x => by
      subst hoff
      have h0 : b + 1 * (x 0).val = b := by have : (x 0).val < 1 := (x 0).isLt; omega
      show w x = g (b + 1 * (x 0).val) (r + 1 * (x 1).val) (0 + 1 * (x 2).val)
      rw [hw, h0, Nat.one_mul, Nat.one_mul, Nat.zero_add]) i (hset ▸ hi)
  iintro Hx Hk
  rw [← e]; unfold oPts
  iapply (wp_store 𝒱₀ (c : Thread nD τ) none Set.univ (m := oM) (r := (Rect.unit (s := S4x1024x512) off ![1, n, 512] inb)) (S := (rows b r n : Finset (Shape.Idx S4x1024x512))) (Mk := Finset.univ) hset.subset) $$ Hx
  iexact Hk

/-- The accumulator, stored a slot at a time and loaded a chunk at a time. -/
theorem load_a' {α : Type} {b : ℕ} {off : Fin 3 → ℕ} (hoff : off = ![b, 0, 0]) {inb} {hl} {f : Vec F S2x1024x512 .f32}
    {k : Vec F S1x1024x512 .f32 → Prog (TpuEff nD τ sig (Elt F) Λ₀ .tc) α} {Q : α → sProp 𝕄} :
    (aPts c b 0 1024 f) ⊢ iprop((∀ v, aPts c b 0 1024 f -∗ WP c (k v) Q)
      -∗ WP c (.op (.load aM (Rect.unit (s := S2x1024x512) off S1x1024x512.size inb).toLoadRect hl) k) Q) := by
  iintro Hx Hk
  unfold aPts
  iapply (wp_load_rect 𝒱₀ (c : Thread nD τ) none Set.univ (m := aM) (r := (Rect.unit (s := S2x1024x512) off S1x1024x512.size inb)) (S := (rows b 0 1024 : Finset (Shape.Idx S2x1024x512)))
    ((View.set_slice_whole cc0_scratch0 _).subset.trans (access_rows rfl hoff inb le_rfl le_rfl))) $$ Hx
  iintro Hx; iapply Hk; iexact Hx

theorem store_a {α : Type} (h : Bool) {off : Fin 3 → ℕ} (hoff : off = ![slot h, 0, 0]) {inb} {hx} {hm} {f : Vec F S2x1024x512 .f32}
    {w : Vec F S1x1024x512 .f32} (hw : ∀ x, w x = wide m ρ c (kb h c) (x 1).val (x 2).val)
    {k : PUnit → Prog (TpuEff nD τ sig (Elt F) Λ₀ .tc) α} {Q : α → sProp 𝕄} :
    (aPts c (slot h) 0 1024 f) ⊢ iprop((aPts c (slot h) 0 1024 (accC m ρ c) -∗ WP c (k ⟨⟩) Q)
      -∗ WP c (.op (.store aM (Rect.unit (s := S2x1024x512) off S1x1024x512.size inb) w Finset.univ hx hm) k) Q) := by
  have hset : (aM.access (Rect.unit (s := S2x1024x512) off S1x1024x512.size inb)).set = rows (slot h) 0 1024 :=
    (View.set_slice_whole cc0_scratch0 _).trans (rect_rows rfl hoff inb)
  have e : (aPts (F := F) c (slot h) 0 1024 ((aM.access (Rect.unit (s := S2x1024x512) off S1x1024x512.size inb)).write (Elt F) f w Finset.univ) : sProp 𝕄)
      = aPts c (slot h) 0 1024 (accC m ρ c) :=
    pointsTo_congr fun i hi => write_eq (aM.access (Rect.unit (s := S2x1024x512) off S1x1024x512.size inb)) f w (accC m ρ c) (fun x => by
      subst hoff
      have h0 : slot h + 1 * (x 0).val = slot h := by have : (x 0).val < 1 := (x 0).isLt; omega
      show w x = wide m ρ c (kb (decide (slot h + 1 * (x 0).val = 1)) c) (0 + 1 * (x 1).val) (0 + 1 * (x 2).val)
      rw [hw, h0, half_slot, Nat.one_mul, Nat.one_mul, Nat.zero_add, Nat.zero_add]) i (hset ▸ hi)
  iintro Hx Hk
  rw [← e]; unfold aPts
  iapply (wp_store 𝒱₀ (c : Thread nD τ) none Set.univ (m := aM) (r := (Rect.unit (s := S2x1024x512) off S1x1024x512.size inb)) (S := (rows (slot h) 0 1024 : Finset (Shape.Idx S2x1024x512))) (Mk := Finset.univ) hset.subset) $$ Hx
  iexact Hk

theorem load_a {α : Type} (h : Bool) (r : ℕ) (hr : r + 256 ≤ 1024) {off : Fin 3 → ℕ} (hoff : off = ![slot h, r, 0]) {inb} {hl}
    {k : Vec F S1x256x512 .f32 → Prog (TpuEff nD τ sig (Elt F) Λ₀ .tc) α} {Q : α → sProp 𝕄} :
    (aPts c (slot h) 0 1024 (accC m ρ c)) ⊢ iprop((aPts c (slot h) 0 1024 (accC m ρ c) -∗ WP c (k (win (wide m ρ c (kb h c)) r)) Q)
      -∗ WP c (.op (.load aM (Rect.unit (s := S2x1024x512) off S1x256x512.size inb).toLoadRect hl) k) Q) := by
  have e : (aM.access (Rect.unit (s := S2x1024x512) off S1x256x512.size inb)).read (Elt F) (accC m ρ c) = win (wide m ρ c (kb h c)) r := by
    subst hoff
    funext x
    have h0 : slot h + 1 * (x 0).val = slot h := by have : (x 0).val < 1 := (x 0).isLt; omega
    show wide m ρ c (kb (decide (slot h + 1 * (x 0).val = 1)) c) (r + 1 * (x 1).val) (0 + 1 * (x 2).val) = wide m ρ c (kb h c) (r + (x 1).val) (x 2).val
    rw [h0, half_slot, Nat.one_mul, Nat.one_mul, Nat.zero_add]
  iintro Hx Hk
  unfold aPts
  iapply (wp_load_rect 𝒱₀ (c : Thread nD τ) none Set.univ (m := aM) (r := (Rect.unit (s := S2x1024x512) off S1x256x512.size inb)) (S := (rows (slot h) 0 1024 : Finset (Shape.Idx S2x1024x512)))
    ((View.set_slice_whole cc0_scratch0 _).subset.trans (access_rows rfl hoff inb (Nat.zero_le _) (by omega)))) $$ Hx
  rw [e]; iexact Hk

theorem load_s1 {α : Type} (h : Bool) (r : ℕ) {off : Fin 3 → ℕ} (hoff : off = ![slot h, r, 0]) {inb} {hl}
    {k : Vec F S1x256x512 .bf16 → Prog (TpuEff nD τ sig (Elt F) Λ₀ .tc) α} {Q : α → sProp 𝕄} :
    (s1Pts c (slot h) r 256 (st1C m ρ c)) ⊢ iprop((s1Pts c (slot h) r 256 (st1C m ρ c) -∗ WP c (k (win (part m ρ (peer h c) (kb h c)) r)) Q)
      -∗ WP c (.op (.load s1M (Rect.unit (s := S2x1024x512) off S1x256x512.size inb).toLoadRect hl) k) Q) := by
  have e : (s1M.access (Rect.unit (s := S2x1024x512) off S1x256x512.size inb)).read (Elt F) (st1C m ρ c) = win (part m ρ (peer h c) (kb h c)) r := by
    subst hoff
    funext x
    have h0 : slot h + 1 * (x 0).val = slot h := by have : (x 0).val < 1 := (x 0).isLt; omega
    show part m ρ (peer (decide (slot h + 1 * (x 0).val = 1)) c) (kb (decide (slot h + 1 * (x 0).val = 1)) c) (r + 1 * (x 1).val) (0 + 1 * (x 2).val)
      = part m ρ (peer h c) (kb h c) (r + (x 1).val) (x 2).val
    rw [h0, half_slot, Nat.one_mul, Nat.one_mul, Nat.zero_add]
  iintro Hx Hk
  unfold s1Pts
  iapply (wp_load_rect 𝒱₀ (c : Thread nD τ) none Set.univ (m := s1M) (r := (Rect.unit (s := S2x1024x512) off S1x256x512.size inb)) (S := (rows (slot h) r 256 : Finset (Shape.Idx S2x1024x512)))
    ((View.set_slice_whole cc0_scratch1 _).subset.trans (access_rows rfl hoff inb le_rfl le_rfl))) $$ Hx
  rw [e]; iexact Hk

theorem load_s2 {α : Type} (h : Bool) (r : ℕ) {off : Fin 3 → ℕ} (hoff : off = ![slot h, r, 0]) {inb} {hl}
    {k : Vec F S1x256x512 .bf16 → Prog (TpuEff nD τ sig (Elt F) Λ₀ .tc) α} {Q : α → sProp 𝕄} :
    (s2Pts c (slot h) r 256 (st2C m ρ c)) ⊢ iprop((s2Pts c (slot h) r 256 (st2C m ρ c) -∗ WP c (k (win (pairSum m ρ (peer (!h) c) h) r)) Q)
      -∗ WP c (.op (.load s2M (Rect.unit (s := S2x1024x512) off S1x256x512.size inb).toLoadRect hl) k) Q) := by
  have e : (s2M.access (Rect.unit (s := S2x1024x512) off S1x256x512.size inb)).read (Elt F) (st2C m ρ c) = win (pairSum m ρ (peer (!h) c) h) r := by
    subst hoff
    funext x
    have h0 : slot h + 1 * (x 0).val = slot h := by have : (x 0).val < 1 := (x 0).isLt; omega
    show pairSum m ρ (peer (!decide (slot h + 1 * (x 0).val = 1)) c) (decide (slot h + 1 * (x 0).val = 1)) (r + 1 * (x 1).val) (0 + 1 * (x 2).val)
      = pairSum m ρ (peer (!h) c) h (r + (x 1).val) (x 2).val
    rw [h0, half_slot, Nat.one_mul, Nat.one_mul, Nat.zero_add]
  iintro Hx Hk
  unfold s2Pts
  iapply (wp_load_rect 𝒱₀ (c : Thread nD τ) none Set.univ (m := s2M) (r := (Rect.unit (s := S2x1024x512) off S1x256x512.size inb)) (S := (rows (slot h) r 256 : Finset (Shape.Idx S2x1024x512)))
    ((View.set_slice_whole cc0_scratch2 _).subset.trans (access_rows rfl hoff inb le_rfl le_rfl))) $$ Hx
  rw [e]; iexact Hk

end Mem

end Cert.KernelIdeal.Reduce

end
-- ==== Proof.Copies.lean ====
/-
# The rules for copies and waits

What a device holds for its copies, and one rule for starting a copy of each phase and for waiting on each kind of cell.
-/
module

public import proofs.«01_k».proof.Proof.Ops

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds for its copies -/

/-- A separating conjunction along a list. -/
def listSep (Φ : Fin 24 → sProp 𝕄) : List (Fin 24) → sProp 𝕄
  | [] => iprop(emp)
  | t :: l => iprop(Φ t ∗ listSep Φ l)

omit [FloatOps F] in
theorem listSep_eq (Φ : Fin 24 → sProp 𝕄) (l : List (Fin 24)) : listSep Φ l = bigSepL l Φ := by
  induction l with
  | nil => rfl
  | cons t l ih => rw [bigSepL_cons, ← ih]; rfl

omit [FloatOps F] in
theorem listSep_cons (Φ : Fin 24 → sProp 𝕄) (t : Fin 24) (l : List (Fin 24)) : listSep Φ (t :: l) = iprop(Φ t ∗ listSep Φ l) := rfl

/-- For a copy not yet started: the position at its send cell and the tokens of the two duties it pays. -/
def toStart (c : Dev nD) (t : Fin 24) : sProp 𝕄 :=
  iprop(atPos ER (sendCell c t) 0 ∅ 0 ∗ dutyTok ER (recvCell (other t c) t) 0 false ∗ dutyTok ER (sendCell c t) 0 false)
/-- For a copy started: what waiting for its end takes. -/
def started (c : Dev nD) (t : Fin 24) : sProp 𝕄 := iprop(atPos ER (sendCell c t) 0 ∅ 0 ∗ cred (tallyAt (sendCell c t) () N))
/-- For a landing not yet waited for. -/
def toLand (c : Dev nD) (t : Fin 24) : sProp 𝕄 := iprop(atPos ER (recvCell c t) 0 ∅ 0 ∗ cred (tallyAt (recvCell c t) () N))

/-- The copies `ls` still to start, the landings `lr` still to wait for, and the send cells `zs` and receive cells `zr`
    done with, at zero. -/
def Ctl (c : Dev nD) (ls lr zs zr : List (Fin 24)) : sProp 𝕄 :=
  iprop((∃ W, owes (c : Thread nD τ) (owedL c ls) W) ∗ listSep (toStart c) ls ∗ listSep (toLand c) lr
    ∗ listSep (fun t => semVal (sendCell c t) 0) zs ∗ listSep (fun t => semVal (recvCell c t) 0) zr)

/-- What all devices know: every cell's invariant, that every cell is at its round 0, the levels. -/
def Rec (K : Dev nD × Option (Bool × Fin 24) → ℕ) : sProp 𝕄 :=
  iprop((bigSep Finset.univ fun ck => cellInv ER (sched m ρ) (K ck) (kcell ck)) ∗ (bigSep Finset.univ fun ck => reached ER (kcell ck) 0) ∗ levAts L lv)

instance Rec_persistent (K) : Persistent (Rec m ρ K) := by unfold Rec; infer_instance

variable (K : Dev nD × Option (Bool × Fin 24) → ℕ)

theorem rec_inv (ck : Dev nD × Option (Bool × Fin 24)) : Rec m ρ K ⊢ cellInv ER (sched m ρ) (K ck) (kcell ck) := by
  unfold Rec; exact sep_elim_left.trans (bigSep_elim (Finset.mem_univ ck))
theorem rec_reached (ck : Dev nD × Option (Bool × Fin 24)) : Rec m ρ K ⊢ reached ER (kcell ck) 0 := by
  unfold Rec; exact sep_elim_right.trans (sep_elim_left.trans (bigSep_elim (Finset.mem_univ ck)))
theorem rec_lev : Rec m ρ K ⊢ levAts L lv := by
  unfold Rec; exact sep_elim_right.trans sep_elim_right

/-! ## Waiting -/

variable {α : Type} {k : PUnit → Prog (TpuEff nD τ sig (Elt F) Λ₀ .tc) α}

section Wait

variable {sp sp' : Space} {s s' : Shape} {e e' : EltTy} {src : Memref sig .tc sp' s' e'} {dst : Memref sig .tc sp s e}
  {hsrc : src.view.WordExact} {hdst : dst.view.WordExact}

theorem wait_recv (c : Dev nD) (t : Fin 24) {ls lr zs zr : List (Fin 24)} {Q : α → sProp 𝕄} {q : DmaSem sig} (hq : q = rS t) (hN : dst.view.dmaCredit = N)
    (hlev : ∀ u ∈ ls, 2 + phase t < 2 + phase u) :
    Rec m ρ K ⊢ iprop(Ctl c ls (t :: lr) zs zr -∗ ((Ctl c ls lr zs (t :: zr) ∗ recvPay m ρ c t) -∗ WP c (k ⟨⟩) Q)
      -∗ WP c (.op (.waitDma2 q src dst hsrc hdst) k) Q) := by
  subst hq
  iintro #HR HC Hk
  unfold Ctl
  rw [listSep_cons, listSep_cons]; unfold toLand
  icases HC with ⟨⟨%W, HO⟩, Hls, ⟨⟨Hat, Hc⟩, Hlr⟩, Hzs, Hzr⟩
  ihave HI := (rec_inv m ρ K (c, some (true, t))) $$ HR
  ihave Hl := (rec_lev m ρ K) $$ HR
  iapply (Rounds.wp_wait_rest_token 𝒱₀ ER (sched m ρ) (c : Thread nD τ) none (κ := K (c, some (true, t)))
      (wpE_waitDma2_eq 𝒱₀ (c : Thread nD τ) none Set.univ) (Set.mem_univ _) () (O := owedL c ls) (W := W) (R := 0) (m := 0) (T := ∅)
      (by rw [Nat.zero_add, hN]; exact (expect_recv m ρ c t).symm)) $$ [HI Hc HO Hl Hat]
  · isplitl [HI]; · iexact HI
    rw [hN]
    isplitl [Hc]; · iexact Hc
    isplitl [HO]; · iexact HO
    isplitl [Hl]; · iapply (mayWait_list c _ ls (fun u hu => by rw [lv_recv]; exact hlev u hu)) $$ Hl
    iexact Hat
  iintro ⟨HO, Hat, -, Hpay⟩
  ihave HI := (rec_inv m ρ K (c, some (true, t))) $$ HR
  imod (Rounds.cell_close ER (sched m ρ) (Set.mem_univ (K (c, some (true, t)))) (fun h => h) (R := 0 + 1) (duties_later m ρ (recvCell c t))) $$ [HI Hat] with Hz
  · isplitl [HI]; · iexact HI
    iexact Hat
  iapply Hk
  isplitr [Hpay]
  · isplitl [HO]; · iexists _; iexact HO
    isplitl [Hls]; · iexact Hls
    isplitl [Hlr]; · iexact Hlr
    isplitl [Hzs]; · iexact Hzs
    isplitl [Hz]; · iexact Hz
    iexact Hzr
  · iapply (Entails.of_eq (rest_recv m ρ c t)) $$ Hpay

theorem wait_send (c : Dev nD) (t : Fin 24) {ls lr zs zr : List (Fin 24)} {Q : α → sProp 𝕄} {q : DmaSem sig} (hq : q = sS t) (hN : dst.view.dmaCredit = N) :
    Rec m ρ K ⊢ iprop(Ctl c ls lr zs zr -∗ started c t -∗ ((Ctl c ls lr (t :: zs) zr ∗ sendPay m ρ c t) -∗ WP c (k ⟨⟩) Q)
      -∗ WP c (.op (.waitDma2 q src dst hsrc hdst) k) Q) := by
  subst hq
  iintro #HR HC Hst Hk
  unfold Ctl
  rw [listSep_cons]; unfold started
  icases HC with ⟨⟨%W, HO⟩, Hls, Hlr, Hzs, Hzr⟩
  icases Hst with ⟨Hat, Hc⟩
  ihave HI := (rec_inv m ρ K (c, some (false, t))) $$ HR
  ihave Hl := (rec_lev m ρ K) $$ HR
  iapply (Rounds.wp_wait_rest_token 𝒱₀ ER (sched m ρ) (c : Thread nD τ) none (κ := K (c, some (false, t)))
      (wpE_waitDma2_eq 𝒱₀ (c : Thread nD τ) none Set.univ) (Set.mem_univ _) () (O := owedL c ls) (W := W) (R := 0) (m := 0) (T := ∅)
      (by rw [Nat.zero_add, hN]; exact (expect_send m ρ c t).symm)) $$ [HI Hc HO Hl Hat]
  · isplitl [HI]; · iexact HI
    rw [hN]
    isplitl [Hc]; · iexact Hc
    isplitl [HO]; · iexact HO
    isplitl [Hl]; · iapply (mayWait_list c _ ls (fun u hu => by rw [lv_other _ _ (sS_not_recv t)]; omega)) $$ Hl
    iexact Hat
  iintro ⟨HO, Hat, -, Hpay⟩
  ihave HI := (rec_inv m ρ K (c, some (false, t))) $$ HR
  imod (Rounds.cell_close ER (sched m ρ) (Set.mem_univ (K (c, some (false, t)))) (fun h => h) (R := 0 + 1) (duties_later m ρ (sendCell c t))) $$ [HI Hat] with Hz
  · isplitl [HI]; · iexact HI
    iexact Hat
  iapply Hk
  isplitr [Hpay]
  · isplitl [HO]; · iexists _; iexact HO
    isplitl [Hls]; · iexact Hls
    isplitl [Hlr]; · iexact Hlr
    isplitl [Hz Hzs]
    · isplitl [Hz]; · iexact Hz
      iexact Hzs
    iexact Hzr
  · iapply (Entails.of_eq (rest_send m ρ c t)) $$ Hpay

end Wait

/-! ### by phase -/

section WaitPhase

variable {sp sp' : Space} {s s' : Shape} {e e' : EltTy} {src : Memref sig .tc sp' s' e'} {dst : Memref sig .tc sp s e}
  {hsrc : src.view.WordExact} {hdst : dst.view.WordExact}

theorem wait_send0 (c : Dev nD) (t : Fin 24) {ls lr zs zr : List (Fin 24)} {Q : α → sProp 𝕄} {q : DmaSem sig} (hq : q = sS t) (hN : dst.view.dmaCredit = N) (e : phase t = 0) :
    Rec m ρ K ⊢ iprop(Ctl c ls lr zs zr -∗ started c t -∗ (Ctl c ls lr (t :: zs) zr -∗ WP c (k ⟨⟩) Q)
      -∗ WP c (.op (.waitDma2 q src dst hsrc hdst) k) Q) := by
  iintro #HR HC Hst Hk
  iapply (wait_send m ρ K c t hq hN) $$ HR HC Hst
  iintro ⟨HC, -⟩
  iapply Hk $$ HC

theorem wait_send1 (c : Dev nD) (t : Fin 24) (h : Bool) (r : ℕ) {ls lr zs zr : List (Fin 24)} {Q : α → sProp 𝕄} {q : DmaSem sig} (hq : q = sS t) (hN : dst.view.dmaCredit = N)
    (e : phase t = 1 ∧ half t = h ∧ row t = r) :
    Rec m ρ K ⊢ iprop(Ctl c ls lr zs zr -∗ started c t -∗ (Ctl c ls lr (t :: zs) zr -∗ oPts c (kb h c) r 256 (oPair m ρ c) -∗ WP c (k ⟨⟩) Q)
      -∗ WP c (.op (.waitDma2 q src dst hsrc hdst) k) Q) := by
  iintro #HR HC Hst Hk
  iapply (wait_send m ρ K c t hq hN) $$ HR HC Hst
  obtain ⟨e, rfl, rfl⟩ := e
  unfold sendPay; rw [if_neg (by rw [e]; decide), if_pos e]
  iintro ⟨HC, HP⟩
  iapply Hk $$ HC HP

theorem wait_send2 (c : Dev nD) (t : Fin 24) (h : Bool) (r : ℕ) {ls lr zs zr : List (Fin 24)} {Q : α → sProp 𝕄} {q : DmaSem sig} (hq : q = sS t) (hN : dst.view.dmaCredit = N)
    (e : phase t = 2 ∧ half t = h ∧ row t = r) :
    Rec m ρ K ⊢ iprop(Ctl c ls lr zs zr -∗ started c t -∗ (Ctl c ls lr (t :: zs) zr -∗ oPts c (kb h c) r 256 (oTotal m ρ c) -∗ WP c (k ⟨⟩) Q)
      -∗ WP c (.op (.waitDma2 q src dst hsrc hdst) k) Q) := by
  iintro #HR HC Hst Hk
  iapply (wait_send m ρ K c t hq hN) $$ HR HC Hst
  obtain ⟨e, rfl, rfl⟩ := e
  unfold sendPay; rw [if_neg (by rw [e]; decide), if_neg (by rw [e]; decide)]
  iintro ⟨HC, HP⟩
  iapply Hk $$ HC HP

theorem wait_recv0 (c : Dev nD) (t : Fin 24) (h : Bool) (r : ℕ) {ls lr zs zr : List (Fin 24)} {Q : α → sProp 𝕄} {q : DmaSem sig} (hq : q = rS t) (hN : dst.view.dmaCredit = N)
    (e : phase t = 0 ∧ half t = h ∧ row t = r) (hlev : ∀ u ∈ ls, 2 + phase t < 2 + phase u) :
    Rec m ρ K ⊢ iprop(Ctl c ls (t :: lr) zs zr
      -∗ (Ctl c ls lr zs (t :: zr) -∗ s1Pts c (slot h) r 256 (st1C m ρ c) -∗ oPts (peer h c) (kb h c) r 256 (oPart m ρ (peer h c)) -∗ WP c (k ⟨⟩) Q)
      -∗ WP c (.op (.waitDma2 q src dst hsrc hdst) k) Q) := by
  iintro #HR HC Hk
  iapply (wait_recv m ρ K c t hq hN hlev) $$ HR HC
  obtain ⟨e, rfl, rfl⟩ := e
  unfold recvPay; rw [if_pos e]
  iintro ⟨HC, HP, HP'⟩
  iapply Hk $$ HC HP HP'

theorem wait_recv1 (c : Dev nD) (t : Fin 24) (h : Bool) (r : ℕ) {ls lr zs zr : List (Fin 24)} {Q : α → sProp 𝕄} {q : DmaSem sig} (hq : q = rS t) (hN : dst.view.dmaCredit = N)
    (e : phase t = 1 ∧ half t = h ∧ row t = r) (hlev : ∀ u ∈ ls, 2 + phase t < 2 + phase u) :
    Rec m ρ K ⊢ iprop(Ctl c ls (t :: lr) zs zr
      -∗ (Ctl c ls lr zs (t :: zr) -∗ s2Pts c (slot h) r 256 (st2C m ρ c) -∗ WP c (k ⟨⟩) Q)
      -∗ WP c (.op (.waitDma2 q src dst hsrc hdst) k) Q) := by
  iintro #HR HC Hk
  iapply (wait_recv m ρ K c t hq hN hlev) $$ HR HC
  obtain ⟨e, rfl, rfl⟩ := e
  unfold recvPay; rw [if_neg (by rw [e]; decide), if_pos e]
  iintro ⟨HC, HP⟩
  iapply Hk $$ HC HP

theorem wait_recv2 (c : Dev nD) (t : Fin 24) (h : Bool) (r : ℕ) {ls lr zs zr : List (Fin 24)} {Q : α → sProp 𝕄} {q : DmaSem sig} (hq : q = rS t) (hN : dst.view.dmaCredit = N)
    (e : phase t = 2 ∧ half t = h ∧ row t = r) (hlev : ∀ u ∈ ls, 2 + phase t < 2 + phase u) :
    Rec m ρ K ⊢ iprop(Ctl c ls (t :: lr) zs zr
      -∗ (Ctl c ls lr zs (t :: zr) -∗ oPts c (nb h c) r 256 (oTotal m ρ (peer h c)) -∗ WP c (k ⟨⟩) Q)
      -∗ WP c (.op (.waitDma2 q src dst hsrc hdst) k) Q) := by
  iintro #HR HC Hk
  iapply (wait_recv m ρ K c t hq hN hlev) $$ HR HC
  obtain ⟨e, rfl, rfl⟩ := e
  unfold recvPay; rw [if_neg (by rw [e]; decide), if_neg (by rw [e]; decide)]
  iintro ⟨HC, HP⟩
  iapply Hk $$ HC HP

end WaitPhase

/-! ## Copying -/

section Send

abbrev oWin (off : Fin 3 → ℕ) (inb : ∀ a, off a + S1x256x512.size a ≤ S4x1024x512.size a) : Memref sig .tc .vmem S256x512 .bf16 :=
  (oM.slice (Rect.unit (s := S4x1024x512) off S1x256x512.size inb) (fun _ => rfl)).squeeze S256x512 squeezes_S1x256x512_S256x512
abbrev s1Win (off : Fin 3 → ℕ) (inb : ∀ a, off a + S1x256x512.size a ≤ S2x1024x512.size a) : Memref sig .tc .vmem S256x512 .bf16 :=
  (s1M.slice (Rect.unit (s := S2x1024x512) off S1x256x512.size inb) (fun _ => rfl)).squeeze S256x512 squeezes_S1x256x512_S256x512
abbrev s2Win (off : Fin 3 → ℕ) (inb : ∀ a, off a + S1x256x512.size a ≤ S2x1024x512.size a) : Memref sig .tc .vmem S256x512 .bf16 :=
  (s2M.slice (Rect.unit (s := S2x1024x512) off S1x256x512.size inb) (fun _ => rfl)).squeeze S256x512 squeezes_S1x256x512_S256x512

theorem oWin_set {off : Fin 3 → ℕ} {b r : ℕ} (h : off = ![b, r, 0]) (inb) : (oWin off inb).view.set = rows b r 256 :=
  (Memref.set_view_squeeze _ _).trans ((View.set_slice_whole cc0_stg3_0 _).trans (rect_rows rfl h inb))
theorem s1Win_set {off : Fin 3 → ℕ} {b r : ℕ} (h : off = ![b, r, 0]) (inb) : (s1Win off inb).view.set = rows b r 256 :=
  (Memref.set_view_squeeze _ _).trans ((View.set_slice_whole cc0_scratch1 _).trans (rect_rows rfl h inb))
theorem s2Win_set {off : Fin 3 → ℕ} {b r : ℕ} (h : off = ![b, r, 0]) (inb) : (s2Win off inb).view.set = rows b r 256 :=
  (Memref.set_view_squeeze _ _).trans ((View.set_slice_whole cc0_scratch2 _).trans (rect_rows rfl h inb))

theorem oWin_loc (c : Dev nD) (off inb) {b r : ℕ} (h : off = ![b, r, 0]) (f) :
    (oPts (F := F) c b r 256 f : sProp 𝕄) = ((oWin off inb).view.loc (c : Thread nD τ) ↦[(oWin off inb).view.set]{fullShare} f) := by
  rw [oWin_set h]; rfl
theorem s1Win_loc (c : Dev nD) (off inb) {b r : ℕ} (h : off = ![b, r, 0]) (f) :
    (s1Pts (F := F) c b r 256 f : sProp 𝕄) = ((s1Win off inb).view.loc (c : Thread nD τ) ↦[(s1Win off inb).view.set]{fullShare} f) := by
  rw [s1Win_set h]; rfl
theorem s2Win_loc (c : Dev nD) (off inb) {b r : ℕ} (h : off = ![b, r, 0]) (f) :
    (s2Pts (F := F) c b r 256 f : sProp 𝕄) = ((s2Win off inb).view.loc (c : Thread nD τ) ↦[(s2Win off inb).view.set]{fullShare} f) := by
  rw [s2Win_set h]; rfl

/-- What lands holds `g` on the rows written, when the source holds it on the rows read. -/
theorem landed {src dst : Memref sig .tc .vmem S256x512 .bf16} (fs : src.view.ty.Contents (Elt F)) (fd g : dst.view.ty.Contents (Elt F))
    (h : ∀ x, src.view.read (Elt F) fs x = dst.view.read (Elt F) g x) :
    ∀ i ∈ dst.view.set, dst.view.write (Elt F) fd (src.view.read (Elt F) fs) Finset.univ i = g i :=
  write_eq dst.view fd _ g fun x => by rw [h, View.read_apply, cast_cast, cast_eq]

theorem owedL_cons (c : Dev nD) (t : Fin 24) (l : List (Fin 24)) : owedL c (t :: l) = owedL c l + tallyAt (recvCell (other t c) t) () N := rfl

theorem oWin_credit (off inb) : (oWin off inb).view.dmaCredit = N := rfl
theorem s1Win_credit (off inb) : (s1Win off inb).view.dmaCredit = N := rfl
theorem s2Win_credit (off inb) : (s2Win off inb).view.dmaCredit = N := rfl

theorem s1_landed (c : Dev nD) (h : Bool) (r : ℕ) {so do_ : Fin 3 → ℕ} (hso : so = ![nb h c, r, 0]) (hdo : do_ = ![slot h, r, 0]) (sinb dinb) (x : S256x512.Idx) :
    (oWin so sinb).view.read (Elt F) (oPart m ρ c) x = (s1Win do_ dinb).view.read (Elt F) (st1C m ρ (peer h c)) x := by
  subst hso hdo
  have hy : ∀ y : S1x256x512.Idx, oPart m ρ c ((Rect.unit (s := S4x1024x512) ![nb h c, r, 0] S1x256x512.size sinb).emb y)
      = st1C m ρ (peer h c) ((Rect.unit (s := S2x1024x512) ![slot h, r, 0] S1x256x512.size dinb).emb y) := fun y => by
    have h0 : slot h + 1 * (y 0).val = slot h := by have : (y 0).val < 1 := (y 0).isLt; omega
    have h1 : nb h c + 1 * (y 0).val = nb h c := by have : (y 0).val < 1 := (y 0).isLt; omega
    show part m ρ c (nb h c + 1 * (y 0).val) (r + 1 * (y 1).val) (0 + 1 * (y 2).val)
      = part m ρ (peer (decide (slot h + 1 * (y 0).val = 1)) (peer h c)) (kb (decide (slot h + 1 * (y 0).val = 1)) (peer h c)) (r + 1 * (y 1).val) (0 + 1 * (y 2).val)
    rw [h0, h1, half_slot, peer_peer, kb_peer]
  exact hy _

theorem s2_landed (c : Dev nD) (h : Bool) (r : ℕ) {so do_ : Fin 3 → ℕ} (hso : so = ![kb h c, r, 0]) (hdo : do_ = ![slot h, r, 0]) (sinb dinb) (x : S256x512.Idx) :
    (oWin so sinb).view.read (Elt F) (oPair m ρ c) x = (s2Win do_ dinb).view.read (Elt F) (st2C m ρ (peer (!h) c)) x := by
  subst hso hdo
  have hy : ∀ y : S1x256x512.Idx, oPair m ρ c ((Rect.unit (s := S4x1024x512) ![kb h c, r, 0] S1x256x512.size sinb).emb y)
      = st2C m ρ (peer (!h) c) ((Rect.unit (s := S2x1024x512) ![slot h, r, 0] S1x256x512.size dinb).emb y) := fun y => by
    have h0 : slot h + 1 * (y 0).val = slot h := by have : (y 0).val < 1 := (y 0).isLt; omega
    have h1 : kb h c + 1 * (y 0).val = kb h c := by have : (y 0).val < 1 := (y 0).isLt; omega
    show pairSum m ρ c (decide (2 ≤ kb h c + 1 * (y 0).val)) (r + 1 * (y 1).val) (0 + 1 * (y 2).val)
      = pairSum m ρ (peer (!decide (slot h + 1 * (y 0).val = 1)) (peer (!h) c)) (decide (slot h + 1 * (y 0).val = 1)) (r + 1 * (y 1).val) (0 + 1 * (y 2).val)
    rw [h0, h1, half_slot, half_kb, peer_peer]
  exact hy _

theorem o_landed (f : Vec F S4x1024x512 .bf16) {b : ℕ} (r : ℕ) {so do_ : Fin 3 → ℕ} (hso : so = ![b, r, 0]) (hdo : do_ = ![b, r, 0]) (sinb dinb) (x : S256x512.Idx) :
    (oWin so sinb).view.read (Elt F) f x = (oWin do_ dinb).view.read (Elt F) f x := by
  subst hso hdo; rfl

variable (c n : Dev nD) (t : Fin 24) (h : Bool) (r : ℕ) {ls lr zs zr : List (Fin 24)} {so do_ : Fin 3 → ℕ} {q1 q2 : DmaSem sig}

theorem send0 {Q : α → sProp 𝕄} (e : phase t = 0 ∧ half t = h ∧ row t = r) (hn : n = peer h c) (hso : so = ![nb h c, r, 0]) (hdo : do_ = ![slot h, r, 0]) {sinb dinb}
    (hq1 : q1 = sS t) (hq2 : q2 = rS t) {hwx hwd hx} (fd : Vec F S2x1024x512 .bf16) :
    Rec m ρ K ⊢ iprop(Ctl c (t :: ls) lr zs zr -∗ oPts c (nb h c) r 256 (oPart m ρ c) -∗ s1Pts (peer h c) (slot h) r 256 fd
      -∗ (Ctl c ls lr zs zr -∗ started c t -∗ WP c (k ⟨⟩) Q)
      -∗ WP c (.op (.enqueueDma (oWin so sinb) (.remote (Dev.tc n) (s1Win do_ dinb) (.dma q1)) (.dma q2) hwx hwd hx) k) Q) := by
  subst hq1 hq2 hn
  have ho : other t c = peer h c := by unfold other; rw [e.1, e.2.1]; rfl
  iintro #HR HC Hs Hd Hk
  unfold Ctl
  rw [listSep_cons]; unfold toStart
  ihave Hs := (Entails.of_eq (oWin_loc c so sinb hso _)) $$ Hs
  ihave Hd := (Entails.of_eq (s1Win_loc (peer h c) do_ dinb hdo _)) $$ Hd
  icases HC with ⟨⟨%W, HO⟩, ⟨⟨Hat, HtR, HtS⟩, Hls⟩, Hlr, Hzs, Hzr⟩
  rw [ho]
  ihave HI1 := (rec_inv m ρ K (c, some (false, t))) $$ HR
  ihave HI2 := (rec_inv m ρ K (peer h c, some (true, t))) $$ HR
  ihave Hr1 := (rec_reached m ρ K (c, some (false, t))) $$ HR
  ihave Hr2 := (rec_reached m ρ K (peer h c, some (true, t))) $$ HR
  iapply (Rounds.wp_send_landing_pointsTo 𝒱₀ ER (sched m ρ) (c : Thread nD τ) none
    (κ₁ := K (c, some (false, t))) (κ₂ := K (peer h c, some (true, t))) (r₁ := 0) (r₂ := 0) (d₁ := false) (d₂ := false) (fd := fd)
    (by rw [duties_send]; exact Finset.mem_singleton_self _) (by rw [duties_recv]; exact Finset.mem_singleton_self _)
    () () N (show (s1Win do_ dinb).view.amount (.dma (rS t)) = N from s1Win_credit do_ dinb) (amount_send m ρ c t false) (amount_recv m ρ (peer h c) t false) (owedL c ls)
    (O₀ := owedL c (t :: ls)) (by rw [owedL_cons, ho]) (W := W)
    (by rw [payload_send]; unfold sendPay; rw [if_pos e.1])
    (by
      rw [payload_recv]; unfold recvPay; rw [if_pos e.1, e.2.1, e.2.2, peer_peer, kb_peer]
      refine sep_mono (Entails.of_eq ?_) (Entails.of_eq (oWin_loc c so sinb hso _).symm)
      rw [s1Win_loc (peer h c) do_ dinb hdo]
      exact pointsTo_congr (landed (src := oWin so sinb) (dst := s1Win do_ dinb) (oPart m ρ c) fd (st1C m ρ (peer h c)) (s1_landed m ρ c h r hso hdo sinb dinb))))
    $$ [HI1 HI2 Hs Hd HO HtS Hr1 HtR Hr2]
  · isplitl [HI1]; · iexact HI1
    isplitl [HI2]; · iexact HI2
    isplitl [Hs]; · iexact Hs
    isplitl [Hd]; · iexact Hd
    isplitl [HO]; · iexact HO
    isplitl [HtS]; · iexact HtS
    isplitl [Hr1]; · iexact Hr1
    isplitl [HtR]; · iexact HtR
    iexact Hr2
  iintro ⟨Hc, HO⟩
  iapply Hk $$ [HO Hls Hlr Hzs Hzr] [Hat Hc]
  · isplitl [HO]; · iexists W; iexact HO
    isplitl [Hls]; · iexact Hls
    isplitl [Hlr]; · iexact Hlr
    isplitl [Hzs] <;> iassumption
  · unfold started
    isplitl [Hat] <;> iassumption

theorem send1 {Q : α → sProp 𝕄} (e : phase t = 1 ∧ half t = h ∧ row t = r) (hn : n = peer (!h) c) (hso : so = ![kb h c, r, 0]) (hdo : do_ = ![slot h, r, 0]) {sinb dinb}
    (hq1 : q1 = sS t) (hq2 : q2 = rS t) {hwx hwd hx} (fd : Vec F S2x1024x512 .bf16) :
    Rec m ρ K ⊢ iprop(Ctl c (t :: ls) lr zs zr -∗ oPts c (kb h c) r 256 (oPair m ρ c) -∗ s2Pts (peer (!h) c) (slot h) r 256 fd
      -∗ (Ctl c ls lr zs zr -∗ started c t -∗ WP c (k ⟨⟩) Q)
      -∗ WP c (.op (.enqueueDma (oWin so sinb) (.remote (Dev.tc n) (s2Win do_ dinb) (.dma q1)) (.dma q2) hwx hwd hx) k) Q) := by
  subst hq1 hq2 hn
  have ho : other t c = peer (!h) c := by unfold other; rw [if_pos e.1, e.2.1]
  iintro #HR HC Hs Hd Hk
  unfold Ctl
  rw [listSep_cons]; unfold toStart
  ihave Hs := (Entails.of_eq (oWin_loc c so sinb hso _)) $$ Hs
  ihave Hd := (Entails.of_eq (s2Win_loc (peer (!h) c) do_ dinb hdo _)) $$ Hd
  icases HC with ⟨⟨%W, HO⟩, ⟨⟨Hat, HtR, HtS⟩, Hls⟩, Hlr, Hzs, Hzr⟩
  rw [ho]
  ihave HI1 := (rec_inv m ρ K (c, some (false, t))) $$ HR
  ihave HI2 := (rec_inv m ρ K (peer (!h) c, some (true, t))) $$ HR
  ihave Hr1 := (rec_reached m ρ K (c, some (false, t))) $$ HR
  ihave Hr2 := (rec_reached m ρ K (peer (!h) c, some (true, t))) $$ HR
  iapply (Rounds.wp_send_pointsTo 𝒱₀ ER (sched m ρ) (c : Thread nD τ) none
    (κ₁ := K (c, some (false, t))) (κ₂ := K (peer (!h) c, some (true, t))) (r₁ := 0) (r₂ := 0) (d₁ := false) (d₂ := false) (fd := fd)
    (by rw [duties_send]; exact Finset.mem_singleton_self _) (by rw [duties_recv]; exact Finset.mem_singleton_self _)
    () () N (show (s2Win do_ dinb).view.amount (.dma (rS t)) = N from s2Win_credit do_ dinb) (amount_send m ρ c t false) (amount_recv m ρ (peer (!h) c) t false) (owedL c ls)
    (O₀ := owedL c (t :: ls)) (by rw [owedL_cons, ho]) (W := W)
    (by
      rw [payload_send]; unfold sendPay; rw [if_neg (by rw [e.1]; decide), if_pos e.1, e.2.1, e.2.2]
      exact Entails.of_eq (oWin_loc c so sinb hso _).symm)
    (by
      rw [payload_recv]; unfold recvPay; rw [if_neg (by rw [e.1]; decide), if_pos e.1, e.2.1, e.2.2]
      refine Entails.of_eq ?_
      rw [s2Win_loc (peer (!h) c) do_ dinb hdo]
      exact pointsTo_congr (landed (src := oWin so sinb) (dst := s2Win do_ dinb) (oPair m ρ c) fd (st2C m ρ (peer (!h) c)) (s2_landed m ρ c h r hso hdo sinb dinb))))
    $$ [HI1 HI2 Hs Hd HO HtS Hr1 HtR Hr2]
  · isplitl [HI1]; · iexact HI1
    isplitl [HI2]; · iexact HI2
    isplitl [Hs]; · iexact Hs
    isplitl [Hd]; · iexact Hd
    isplitl [HO]; · iexact HO
    isplitl [HtS]; · iexact HtS
    isplitl [Hr1]; · iexact Hr1
    isplitl [HtR]; · iexact HtR
    iexact Hr2
  iintro ⟨Hc, HO⟩
  iapply Hk $$ [HO Hls Hlr Hzs Hzr] [Hat Hc]
  · isplitl [HO]; · iexists W; iexact HO
    isplitl [Hls]; · iexact Hls
    isplitl [Hlr]; · iexact Hlr
    isplitl [Hzs] <;> iassumption
  · unfold started
    isplitl [Hat] <;> iassumption

theorem send2 {Q : α → sProp 𝕄} (e : phase t = 2 ∧ half t = h ∧ row t = r) (hn : n = peer h c) (hso : so = ![kb h c, r, 0]) (hdo : do_ = ![kb h c, r, 0]) {sinb dinb}
    (hq1 : q1 = sS t) (hq2 : q2 = rS t) {hwx hwd hx} (fd : Vec F S4x1024x512 .bf16) :
    Rec m ρ K ⊢ iprop(Ctl c (t :: ls) lr zs zr -∗ oPts c (kb h c) r 256 (oTotal m ρ c) -∗ oPts (peer h c) (kb h c) r 256 fd
      -∗ (Ctl c ls lr zs zr -∗ started c t -∗ WP c (k ⟨⟩) Q)
      -∗ WP c (.op (.enqueueDma (oWin so sinb) (.remote (Dev.tc n) (oWin do_ dinb) (.dma q1)) (.dma q2) hwx hwd hx) k) Q) := by
  subst hq1 hq2 hn
  have ho : other t c = peer h c := by unfold other; rw [if_neg (by rw [e.1]; decide), e.2.1]
  iintro #HR HC Hs Hd Hk
  unfold Ctl
  rw [listSep_cons]; unfold toStart
  ihave Hs := (Entails.of_eq (oWin_loc c so sinb hso _)) $$ Hs
  ihave Hd := (Entails.of_eq (oWin_loc (peer h c) do_ dinb hdo _)) $$ Hd
  icases HC with ⟨⟨%W, HO⟩, ⟨⟨Hat, HtR, HtS⟩, Hls⟩, Hlr, Hzs, Hzr⟩
  rw [ho]
  ihave HI1 := (rec_inv m ρ K (c, some (false, t))) $$ HR
  ihave HI2 := (rec_inv m ρ K (peer h c, some (true, t))) $$ HR
  ihave Hr1 := (rec_reached m ρ K (c, some (false, t))) $$ HR
  ihave Hr2 := (rec_reached m ρ K (peer h c, some (true, t))) $$ HR
  iapply (Rounds.wp_send_pointsTo 𝒱₀ ER (sched m ρ) (c : Thread nD τ) none
    (κ₁ := K (c, some (false, t))) (κ₂ := K (peer h c, some (true, t))) (r₁ := 0) (r₂ := 0) (d₁ := false) (d₂ := false) (fd := fd)
    (by rw [duties_send]; exact Finset.mem_singleton_self _) (by rw [duties_recv]; exact Finset.mem_singleton_self _)
    () () N (show (oWin do_ dinb).view.amount (.dma (rS t)) = N from oWin_credit do_ dinb) (amount_send m ρ c t false) (amount_recv m ρ (peer h c) t false) (owedL c ls)
    (O₀ := owedL c (t :: ls)) (by rw [owedL_cons, ho]) (W := W)
    (by
      rw [payload_send]; unfold sendPay; rw [if_neg (by rw [e.1]; decide), if_neg (by rw [e.1]; decide), e.2.1, e.2.2]
      exact Entails.of_eq (oWin_loc c so sinb hso _).symm)
    (by
      rw [payload_recv]; unfold recvPay; rw [if_neg (by rw [e.1]; decide), if_neg (by rw [e.1]; decide), e.2.1, e.2.2, nb_peer, peer_peer]
      refine Entails.of_eq ?_
      rw [oWin_loc (peer h c) do_ dinb hdo]
      exact pointsTo_congr (landed (src := oWin so sinb) (dst := oWin do_ dinb) (oTotal m ρ c) fd (oTotal m ρ c) (o_landed (oTotal m ρ c) r hso hdo sinb dinb))))
    $$ [HI1 HI2 Hs Hd HO HtS Hr1 HtR Hr2]
  · isplitl [HI1]; · iexact HI1
    isplitl [HI2]; · iexact HI2
    isplitl [Hs]; · iexact Hs
    isplitl [Hd]; · iexact Hd
    isplitl [HO]; · iexact HO
    isplitl [HtS]; · iexact HtS
    isplitl [Hr1]; · iexact Hr1
    isplitl [HtR]; · iexact HtR
    iexact Hr2
  iintro ⟨Hc, HO⟩
  iapply Hk $$ [HO Hls Hlr Hzs Hzr] [Hat Hc]
  · isplitl [HO]; · iexists W; iexact HO
    isplitl [Hls]; · iexact Hls
    isplitl [Hlr]; · iexact Hlr
    isplitl [Hzs] <;> iassumption
  · unfold started
    isplitl [Hat] <;> iassumption

end Send

end Cert.KernelIdeal.Reduce

end
-- ==== Proof.Facts.lean ====
/-
# The offsets and targets of the body, and what its stores write

Each offset and each target in closed form, and each stored payload as rows of the function its buffer is to hold.
-/
module

public import proofs.«01_k».proof.Proof.Copies

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Offsets and targets -/

theorem off1 (c : Dev nD) : k0_off1 c = ![nb false c, 0, 0] := by revert c; decide
theorem off2 (c : Dev nD) : k0_off2 c = ![nb false c, 0, 0] := by revert c; decide
theorem off3 (c : Dev nD) : k0_off3 c = ![nb false c, 0, 0] := by revert c; decide
theorem off4 (c : Dev nD) : k0_off4 c = ![nb false c, 256, 0] := by revert c; decide
theorem off5 (c : Dev nD) : k0_off5 c = ![nb true c, 0, 0] := by revert c; decide
theorem off6 (c : Dev nD) : k0_off6 c = ![nb true c, 0, 0] := by revert c; decide
theorem off7 (c : Dev nD) : k0_off7 c = ![nb true c, 0, 0] := by revert c; decide
theorem off8 (c : Dev nD) : k0_off8 c = ![nb true c, 256, 0] := by revert c; decide
theorem off9 (c : Dev nD) : k0_off9 c = ![nb false c, 512, 0] := by revert c; decide
theorem off10 (c : Dev nD) : k0_off10 c = ![nb false c, 512, 0] := by revert c; decide
theorem off11 (c : Dev nD) : k0_off11 c = ![nb false c, 768, 0] := by revert c; decide
theorem off12 (c : Dev nD) : k0_off12 c = ![nb true c, 512, 0] := by revert c; decide
theorem off13 (c : Dev nD) : k0_off13 c = ![nb true c, 512, 0] := by revert c; decide
theorem off14 (c : Dev nD) : k0_off14 c = ![nb true c, 768, 0] := by revert c; decide
theorem off15 (c : Dev nD) : k0_off15 c = ![kb false c, 0, 0] := by revert c; decide
theorem off16 (c : Dev nD) : k0_off16 c = ![kb true c, 0, 0] := by revert c; decide
theorem off17 (c : Dev nD) : k0_off17 c = ![kb false c, 0, 0] := by revert c; decide
theorem off18 (c : Dev nD) : k0_off18 c = ![kb false c, 0, 0] := by revert c; decide
theorem off19 (c : Dev nD) : k0_off19 c = ![kb true c, 0, 0] := by revert c; decide
theorem off20 (c : Dev nD) : k0_off20 c = ![kb true c, 0, 0] := by revert c; decide
theorem off21 (c : Dev nD) : k0_off21 c = ![kb false c, 256, 0] := by revert c; decide
theorem off22 (c : Dev nD) : k0_off22 c = ![kb false c, 256, 0] := by revert c; decide
theorem off23 (c : Dev nD) : k0_off23 c = ![kb true c, 256, 0] := by revert c; decide
theorem off24 (c : Dev nD) : k0_off24 c = ![kb true c, 256, 0] := by revert c; decide
theorem off25 (c : Dev nD) : k0_off25 c = ![kb false c, 512, 0] := by revert c; decide
theorem off26 (c : Dev nD) : k0_off26 c = ![kb false c, 512, 0] := by revert c; decide
theorem off27 (c : Dev nD) : k0_off27 c = ![kb true c, 512, 0] := by revert c; decide
theorem off28 (c : Dev nD) : k0_off28 c = ![kb true c, 512, 0] := by revert c; decide
theorem off29 (c : Dev nD) : k0_off29 c = ![kb false c, 768, 0] := by revert c; decide
theorem off30 (c : Dev nD) : k0_off30 c = ![kb false c, 768, 0] := by revert c; decide
theorem off31 (c : Dev nD) : k0_off31 c = ![kb true c, 768, 0] := by revert c; decide
theorem off32 (c : Dev nD) : k0_off32 c = ![kb true c, 768, 0] := by revert c; decide

theorem dev1 (c : Dev nD) : (⟨k0_dev1 c, k0_dev1_lt c⟩ : Dev nD) = peer false c := by revert c; decide
theorem dev2 (c : Dev nD) : (⟨k0_dev2 c, k0_dev2_lt c⟩ : Dev nD) = peer true c := by revert c; decide
theorem dev3 (c : Dev nD) : (⟨k0_dev3 c, k0_dev3_lt c⟩ : Dev nD) = peer false c := by revert c; decide
theorem dev4 (c : Dev nD) : (⟨k0_dev4 c, k0_dev4_lt c⟩ : Dev nD) = peer false c := by revert c; decide
theorem dev5 (c : Dev nD) : (⟨k0_dev5 c, k0_dev5_lt c⟩ : Dev nD) = peer true c := by revert c; decide
theorem dev6 (c : Dev nD) : (⟨k0_dev6 c, k0_dev6_lt c⟩ : Dev nD) = peer true c := by revert c; decide
theorem dev7 (c : Dev nD) : (⟨k0_dev7 c, k0_dev7_lt c⟩ : Dev nD) = peer false c := by revert c; decide
theorem dev8 (c : Dev nD) : (⟨k0_dev8 c, k0_dev8_lt c⟩ : Dev nD) = peer false c := by revert c; decide
theorem dev9 (c : Dev nD) : (⟨k0_dev9 c, k0_dev9_lt c⟩ : Dev nD) = peer true c := by revert c; decide
theorem dev10 (c : Dev nD) : (⟨k0_dev10 c, k0_dev10_lt c⟩ : Dev nD) = peer true c := by revert c; decide
theorem dev11 (c : Dev nD) : (⟨k0_dev11 c, k0_dev11_lt c⟩ : Dev nD) = peer true c := by revert c; decide
theorem dev12 (c : Dev nD) : (⟨k0_dev12 c, k0_dev12_lt c⟩ : Dev nD) = peer false c := by revert c; decide
theorem dev13 (c : Dev nD) : (⟨k0_dev13 c, k0_dev13_lt c⟩ : Dev nD) = peer true c := by revert c; decide
theorem dev14 (c : Dev nD) : (⟨k0_dev14 c, k0_dev14_lt c⟩ : Dev nD) = peer false c := by revert c; decide
theorem dev15 (c : Dev nD) : (⟨k0_dev15 c, k0_dev15_lt c⟩ : Dev nD) = peer true c := by revert c; decide
theorem dev16 (c : Dev nD) : (⟨k0_dev16 c, k0_dev16_lt c⟩ : Dev nD) = peer false c := by revert c; decide
theorem dev17 (c : Dev nD) : (⟨k0_dev17 c, k0_dev17_lt c⟩ : Dev nD) = peer true c := by revert c; decide
theorem dev18 (c : Dev nD) : (⟨k0_dev18 c, k0_dev18_lt c⟩ : Dev nD) = peer false c := by revert c; decide
theorem dev19 (c : Dev nD) : (⟨k0_dev19 c, k0_dev19_lt c⟩ : Dev nD) = peer false c := by revert c; decide
theorem dev20 (c : Dev nD) : (⟨k0_dev20 c, k0_dev20_lt c⟩ : Dev nD) = peer true c := by revert c; decide
theorem dev21 (c : Dev nD) : (⟨k0_dev21 c, k0_dev21_lt c⟩ : Dev nD) = peer false c := by revert c; decide
theorem dev22 (c : Dev nD) : (⟨k0_dev22 c, k0_dev22_lt c⟩ : Dev nD) = peer true c := by revert c; decide
theorem dev23 (c : Dev nD) : (⟨k0_dev23 c, k0_dev23_lt c⟩ : Dev nD) = peer false c := by revert c; decide
theorem dev24 (c : Dev nD) : (⟨k0_dev24 c, k0_dev24_lt c⟩ : Dev nD) = peer true c := by revert c; decide
theorem dev25 (c : Dev nD) : (⟨k0_dev25 c, k0_dev25_lt c⟩ : Dev nD) = peer false c := by revert c; decide
theorem dev26 (c : Dev nD) : (⟨k0_dev26 c, k0_dev26_lt c⟩ : Dev nD) = peer true c := by revert c; decide

/-! ## The arguments of the body -/

/-- A part of the body at the buffers and semaphores it is called with. -/
abbrev onBuf {β : Type 1} (p : (arg0 : Memref sig .tc .vmem S4x1024x512 .f32) → arg0.IsWhole → (arg1 : Memref sig .tc .vmem S4x512 .f32) → arg1.IsWhole
    → (arg2 : Memref sig .tc .vmem S512x512 .f32) → arg2.IsWhole → (arg3 : Memref sig .tc .vmem S4x1024x512 .bf16) → arg3.IsWhole
    → (arg4 : Memref sig .tc .vmem S2x1024x512 .f32) → arg4.IsWhole → (arg5 : Memref sig .tc .vmem S2x1024x512 .bf16) → arg5.IsWhole
    → (arg6 : Memref sig .tc .vmem S2x1024x512 .bf16) → arg6.IsWhole → DmaSems sig S24 → DmaSems sig S24 → β) : β :=
  p xM (Memref.isWhole_whole _) kM (Memref.isWhole_whole _) wM (Memref.isWhole_whole _) oM (Memref.isWhole_whole _) aM (Memref.isWhole_whole _)
    s1M (Memref.isWhole_whole _) s2M (Memref.isWhole_whole _) cc0_scratch3 cc0_scratch4

theorem wp_done {α : Type} (c : Dev nD) (a : α) (Q : α → sProp 𝕄) : Q a ⊢ WP c (.ret a) Q := by
  unfold WP; rw [wp_ret]; iintro H; imodintro; iexact H

/-! ## Payloads -/

/-- The upper half of rows of the gated convolution. -/
def gatedLo (c : Dev nD) (b : ℕ) : FVec F S512x512 .f32 :=
  k0_pay2 (xw m ρ c b) (kw m ρ c 3) (kw m ρ c 0) (kw m ρ c 1) (kw m ρ c 2)

omit [FloatOps F] in
theorem idx_ix3 {n : ℕ} [NeZero n] (x : Shape.Idx ⟨3, ![1, n, 512]⟩) (r : ℕ) (hr : r % n = (x 1).val) :
    (ix3 0 (Fin.ofNat n r) (Fin.ofNat 512 (x 2).val) : Shape.Idx ⟨3, ![1, n, 512]⟩) = x := by
  funext a
  apply Fin.ext
  fin_cases a
  · have : (x 0).val < 1 := (x 0).isLt
    show 0 = (x 0).val; omega
  · exact hr
  · exact Nat.mod_eq_of_lt (x 2).isLt

theorem part_lo (c : Dev nD) (b : ℕ) (x : S1x512x512.Idx) : part m ρ c b (0 + (x 1).val) (x 2).val = k0_pay3 (gatedLo m ρ c b) (wstg m ρ c) x := by
  have h1 : (x 1).val < 512 := (x 1).isLt
  unfold part
  rw [if_pos (by omega), idx_ix3 x _ (by omega)]; rfl
theorem part_hi (c : Dev nD) (b : ℕ) (x : S1x512x512.Idx) : part m ρ c b (512 + (x 1).val) (x 2).val = k0_pay9 (gated m ρ c b) (wstg m ρ c) x := by
  have h1 : (x 1).val < 512 := (x 1).isLt
  unfold part
  rw [if_neg (by omega), idx_ix3 x _ (by omega)]
theorem wide_at (c : Dev nD) (b : ℕ) (x : S1x1024x512.Idx) : wide m ρ c b (x 1).val (x 2).val
    = k0_pay13 (k0_pay11 (xw m ρ c b)) (k0_pay12 (xw m ρ c b) (kw m ρ c 3) (kw m ρ c 0)) (Scalar.ofBits .f32 0x00000000#32)
      (kw m ρ c 1) (kw m ρ c 2) (wstg m ρ c) x := by
  have h1 : (x 1).val < 1024 := (x 1).isLt
  unfold wide
  rw [idx_ix3 x _ (by omega)]
theorem pairSum_at (c : Dev nD) (h : Bool) (q : ℕ) (x : S1x256x512.Idx) : pairSum m ρ c h (256 * q + (x 1).val) (x 2).val
    = k0_pay17 (win (wide m ρ c (kb h c)) (256 * q)) (win (part m ρ (peer h c) (kb h c)) (256 * q)) x := by
  have h1 : (x 1).val < 256 := (x 1).isLt
  unfold pairSum
  rw [idx_ix3 x _ (by omega), show (256 * q + (x 1).val) / 256 = q by omega]
theorem total_at (c : Dev nD) (h : Bool) (q : ℕ) (x : S1x256x512.Idx) : total m ρ c h (256 * q + (x 1).val) (x 2).val
    = k0_pay28 (win (wide m ρ c (kb h c)) (256 * q)) (win (part m ρ (peer h c) (kb h c)) (256 * q)) (win (pairSum m ρ (peer (!h) c) h) (256 * q)) x := by
  have h1 : (x 1).val < 256 := (x 1).isLt
  unfold total
  rw [idx_ix3 x _ (by omega), show (256 * q + (x 1).val) / 256 = q by omega]

/-! ## Stores into the result array -/

section Stores

variable {α : Type} {k : PUnit → Prog (TpuEff nD τ sig (Elt F) Λ₀ .tc) α} {f : Vec F S4x1024x512 .bf16} (c : Dev nD)

/-- Half of a batch's product, as two chunks. -/
theorem store_part (b r : ℕ) {off : Fin 3 → ℕ} (hoff : off = ![b, r, 0]) {inb} {hx} {hm}
    {w : Vec F S1x512x512 .bf16} (hw : ∀ x, w x = part m ρ c b (r + (x 1).val) (x 2).val) {Q : α → sProp 𝕄} :
    (oPts c b r 512 f) ⊢ iprop((oPts c b r 256 (oPart m ρ c) -∗ oPts c b (r + 256) 256 (oPart m ρ c) -∗ WP c (k ⟨⟩) Q)
      -∗ WP c (.op (.store oM (Rect.unit (s := S4x1024x512) off S1x512x512.size inb) w Finset.univ hx hm) k) Q) := by
  iintro Ho Hk
  iapply (store_o (n := 512) c (part m ρ c) hoff hw) $$ Ho
  iintro Ho
  ihave Ho := (Entails.of_eq (show oPts c b r 512 (buf (part m ρ c)) = _ from oPts_half c b r (oPart m ρ c))) $$ Ho
  icases Ho with ⟨Ho, Ho'⟩
  iapply Hk $$ Ho Ho'

theorem store_pair (h : Bool) (q : ℕ) {off : Fin 3 → ℕ} (hoff : off = ![kb h c, 256 * q, 0]) {inb} {hx} {hm}
    {w : Vec F S1x256x512 .bf16} (hw : ∀ x, w x = k0_pay17 (win (wide m ρ c (kb h c)) (256 * q)) (win (part m ρ (peer h c) (kb h c)) (256 * q)) x) {Q : α → sProp 𝕄} :
    (oPts c (kb h c) (256 * q) 256 f) ⊢ iprop((oPts c (kb h c) (256 * q) 256 (oPair m ρ c) -∗ WP c (k ⟨⟩) Q)
      -∗ WP c (.op (.store oM (Rect.unit (s := S4x1024x512) off S1x256x512.size inb) w Finset.univ hx hm) k) Q) := by
  iintro Ho Hk
  iapply (store_o (n := 256) c (fun b => pairSum m ρ c (decide (2 ≤ b))) hoff (fun x => by rw [hw, half_kb, pairSum_at])) $$ Ho
  iexact Hk

theorem store_total (h : Bool) (q : ℕ) {off : Fin 3 → ℕ} (hoff : off = ![kb h c, 256 * q, 0]) {inb} {hx} {hm}
    {w : Vec F S1x256x512 .bf16} (hw : ∀ x, w x = k0_pay28 (win (wide m ρ c (kb h c)) (256 * q)) (win (part m ρ (peer h c) (kb h c)) (256 * q))
      (win (pairSum m ρ (peer (!h) c) h) (256 * q)) x) {Q : α → sProp 𝕄} :
    (oPts c (kb h c) (256 * q) 256 f) ⊢ iprop((oPts c (kb h c) (256 * q) 256 (oTotal m ρ c) -∗ WP c (k ⟨⟩) Q)
      -∗ WP c (.op (.store oM (Rect.unit (s := S4x1024x512) off S1x256x512.size inb) w Finset.univ hx hm) k) Q) := by
  iintro Ho Hk
  iapply (store_o (n := 256) c (fun b => total m ρ c (decide (2 ≤ b))) hoff (fun x => by rw [hw, half_kb, total_at])) $$ Ho
  iexact Hk

end Stores

end Cert.KernelIdeal.Reduce

end
-- ==== Proof.Products.lean ====
/-
# The products of the device

The parts of the body that compute: both given batches, stored in the narrow type and sent as soon as a chunk is there, then both
kept batches, stored in the wide type in the accumulator.
-/
module

public import proofs.«01_k».proof.Proof.Facts

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Bool × Fin 24) → ℕ) (c : Dev nD) {ls lr zs zr : List (Fin 24)} {f : Vec F S4x1024x512 .bf16} {g g' : Vec F S2x1024x512 .bf16}
  {a : Vec F S2x1024x512 .f32}

theorem part3 {Q : _ → sProp 𝕄} : xPts m ρ c ⊢ iprop(kPts m ρ c -∗ wPts m ρ c
      -∗ (xPts m ρ c -∗ kPts m ρ c -∗ wPts m ρ c -∗ Q ⟨gated m ρ c (nb false c), gatedLo m ρ c (nb false c), wstg m ρ c⟩)
      -∗ WP c (onBuf (k0_part3_skel (F := F)) c) Q) := by
  unfold k0_part3_skel; simp only [Prog.lift, Prog.bind_op, Prog.bind_ret, Prog.pure_eq_ret]
  iintro HX HK HW Hk
  iapply (load_x m ρ c (off1 c) (nb_lt false c)) $$ HX; iintro HX
  iapply (load_k m ρ c 3 rfl) $$ HK; iintro HK
  iapply (load_k m ρ c 0 rfl) $$ HK; iintro HK
  iapply (load_k m ρ c 1 rfl) $$ HK; iintro HK
  iapply (load_k m ρ c 2 rfl) $$ HK; iintro HK
  iapply (load_w m ρ c) $$ HW; iintro HW
  rw [show k0_pay1 (xw m ρ c (nb false c)) (kw m ρ c 3) (kw m ρ c 0) (kw m ρ c 1) (kw m ρ c 2) = gated m ρ c (nb false c) from rfl,
    show k0_pay2 (xw m ρ c (nb false c)) (kw m ρ c 3) (kw m ρ c 0) (kw m ρ c 1) (kw m ρ c 2) = gatedLo m ρ c (nb false c) from rfl]
  iapply (wp_done c _ Q)
  iapply Hk $$ HX HK HW

theorem part4 {Q : _ → sProp 𝕄} (v32 v62 v64 : BitVec 32) : Rec m ρ K ⊢ iprop(Ctl c (0 :: 1 :: ls) lr zs zr -∗ xPts m ρ c -∗ kPts m ρ c
      -∗ oPts c (nb false c) 0 512 f -∗ s1Pts (peer false c) (slot false) 0 256 g -∗ s1Pts (peer false c) (slot false) 256 256 g
      -∗ (Ctl c ls lr zs zr -∗ xPts m ρ c -∗ kPts m ρ c -∗ started c 0 -∗ started c 1 -∗ Q ⟨k0_pay4 (xw m ρ c (nb true c)), k0_pay5 (kw m ρ c 3)⟩)
      -∗ WP c (onBuf (k0_part4_skel (F := F)) c v32 v62 v64 (gatedLo m ρ c (nb false c)) (wstg m ρ c)) Q) := by
  unfold k0_part4_skel; simp only [Prog.lift, Prog.bind_op, Prog.bind_ret, Prog.pure_eq_ret]
  iintro #HR HC HX HK Ho Hd0 Hd1 Hk
  iapply (load_o c (off2 c)) $$ Ho; iintro %v Ho
  iapply (store_part m ρ c (nb false c) 0 (off2 c) (fun x => (part_lo m ρ c _ x).symm)) $$ Ho; iintro Ho0 Ho1
  iapply (send0 m ρ K c _ 0 false 0 (by decide) (dev3 c) (off3 c) rfl rfl rfl g) $$ HR HC Ho0 Hd0; iintro HC Hs0
  iapply (send0 m ρ K c _ 1 false 256 (by decide) (dev4 c) (off4 c) rfl rfl rfl g) $$ HR HC Ho1 Hd1; iintro HC Hs1
  iapply (load_x m ρ c (off5 c) (nb_lt true c)) $$ HX; iintro HX
  iapply (load_k m ρ c 3 rfl) $$ HK; iintro HK
  iapply (wp_done c _ Q)
  iapply Hk $$ HC HX HK Hs0 Hs1

theorem part5 {Q : _ → sProp 𝕄} (v64 : BitVec 32) : kPts m ρ c ⊢ iprop(wPts m ρ c
      -∗ (kPts m ρ c -∗ wPts m ρ c -∗ Q ⟨gated m ρ c (nb true c), k0_pay7 (k0_pay4 (xw m ρ c (nb true c))) (k0_pay5 (kw m ρ c 3)) (kw m ρ c 0) (kw m ρ c 1) (kw m ρ c 2) (wstg m ρ c)⟩)
      -∗ WP c (onBuf (k0_part5_skel (F := F)) v64 (k0_pay4 (xw m ρ c (nb true c))) (k0_pay5 (kw m ρ c 3))) Q) := by
  unfold k0_part5_skel; simp only [Prog.lift, Prog.bind_op, Prog.bind_ret, Prog.pure_eq_ret]
  iintro HK HW Hk
  iapply (load_k m ρ c 0 rfl) $$ HK; iintro HK
  iapply (load_k m ρ c 1 rfl) $$ HK; iintro HK
  iapply (load_k m ρ c 2 rfl) $$ HK; iintro HK
  iapply (load_w m ρ c) $$ HW; iintro HW
  rw [show k0_pay6 (k0_pay4 (xw m ρ c (nb true c))) (k0_pay5 (kw m ρ c 3)) (kw m ρ c 0) (kw m ρ c 1) (kw m ρ c 2) = gated m ρ c (nb true c) from rfl]
  iapply (wp_done c _ Q)
  iapply Hk $$ HK HW

theorem part6 {Q : _ → sProp 𝕄} (v33 v62 : BitVec 32) : Rec m ρ K ⊢ iprop(Ctl c (4 :: 5 :: ls) lr zs zr -∗ wPts m ρ c
      -∗ oPts c (nb true c) 0 512 f -∗ oPts c (nb false c) 512 512 f -∗ s1Pts (peer true c) (slot true) 0 256 g -∗ s1Pts (peer true c) (slot true) 256 256 g
      -∗ (Ctl c ls lr zs zr -∗ wPts m ρ c -∗ started c 4 -∗ started c 5 -∗ oPts c (nb false c) 512 256 (oPart m ρ c) -∗ oPts c (nb false c) 768 256 (oPart m ρ c) -∗ Q ⟨⟩)
      -∗ WP c (onBuf (k0_part6_skel (F := F)) c v33 v62 (gated m ρ c (nb false c))
        (k0_pay7 (k0_pay4 (xw m ρ c (nb true c))) (k0_pay5 (kw m ρ c 3)) (kw m ρ c 0) (kw m ρ c 1) (kw m ρ c 2) (wstg m ρ c))) Q) := by
  unfold k0_part6_skel; simp only [Prog.lift, Prog.bind_op, Prog.bind_ret, Prog.pure_eq_ret]
  iintro #HR HC HW Ho Ho' Hd0 Hd1 Hk
  iapply (load_o c (off6 c)) $$ Ho; iintro %v Ho
  iapply (store_part m ρ c (nb true c) 0 (off6 c) (fun x => (part_lo m ρ c _ x).symm)) $$ Ho; iintro Ho0 Ho1
  iapply (send0 m ρ K c _ 4 true 0 (by decide) (dev5 c) (off7 c) rfl rfl rfl g) $$ HR HC Ho0 Hd0; iintro HC Hs0
  iapply (send0 m ρ K c _ 5 true 256 (by decide) (dev6 c) (off8 c) rfl rfl rfl g) $$ HR HC Ho1 Hd1; iintro HC Hs1
  iapply (load_w m ρ c) $$ HW; iintro HW
  iapply (load_o c (off9 c)) $$ Ho'; iintro %v' Ho'
  iapply (store_part m ρ c (nb false c) 512 (off9 c) (fun x => (part_hi m ρ c _ x).symm)) $$ Ho'; iintro Ho2 Ho3
  iapply (wp_done c _ Q)
  iapply Hk $$ HC HW Hs0 Hs1 Ho2 Ho3

theorem part7 {Q : _ → sProp 𝕄} (v32 v33 v64 : BitVec 32) : Rec m ρ K ⊢ iprop(Ctl c (2 :: 3 :: ls) lr zs zr -∗ wPts m ρ c
      -∗ oPts c (nb false c) 512 256 (oPart m ρ c) -∗ oPts c (nb false c) 768 256 (oPart m ρ c) -∗ oPts c (nb true c) 512 512 f
      -∗ s1Pts (peer false c) (slot false) 512 256 g -∗ s1Pts (peer false c) (slot false) 768 256 g
      -∗ (∀ w, Ctl c ls lr zs zr -∗ wPts m ρ c -∗ started c 2 -∗ started c 3 -∗ oPts c (nb true c) 512 256 (oPart m ρ c) -∗ oPts c (nb true c) 768 256 (oPart m ρ c) -∗ Q w)
      -∗ WP c (onBuf (k0_part7_skel (F := F)) c v32 v33 v64 (gated m ρ c (nb true c))) Q) := by
  unfold k0_part7_skel; simp only [Prog.lift, Prog.bind_op, Prog.bind_ret, Prog.pure_eq_ret]
  iintro #HR HC HW Ho0 Ho1 Ho Hd0 Hd1 Hk
  iapply (send0 m ρ K c _ 2 false 512 (by decide) (dev7 c) (off10 c) rfl rfl rfl g) $$ HR HC Ho0 Hd0; iintro HC Hs0
  iapply (send0 m ρ K c _ 3 false 768 (by decide) (dev8 c) (off11 c) rfl rfl rfl g) $$ HR HC Ho1 Hd1; iintro HC Hs1
  iapply (load_w m ρ c) $$ HW; iintro HW
  iapply (load_o c (off12 c)) $$ Ho; iintro %v Ho
  iapply (store_part m ρ c (nb true c) 512 (off12 c) (fun x => (part_hi m ρ c _ x).symm)) $$ Ho; iintro Ho2 Ho3
  iapply (wp_done c _ Q)
  iapply Hk $$ HC HW Hs0 Hs1 Ho2 Ho3

/-- The first two products of the convolution of batch `b`, and the narrow zero, as the parts hand them on. -/
theorem part8 {Q : _ → sProp 𝕄} (v33 v61 v252 : BitVec 32) : Rec m ρ K ⊢ iprop(Ctl c (6 :: 7 :: ls) lr zs zr -∗ xPts m ρ c -∗ kPts m ρ c
      -∗ oPts c (nb true c) 512 256 (oPart m ρ c) -∗ oPts c (nb true c) 768 256 (oPart m ρ c)
      -∗ s1Pts (peer true c) (slot true) 512 256 g -∗ s1Pts (peer true c) (slot true) 768 256 g
      -∗ (Ctl c ls lr zs zr -∗ xPts m ρ c -∗ kPts m ρ c -∗ started c 6 -∗ started c 7
        -∗ Q ⟨k0_pay11 (xw m ρ c (kb false c)), k0_pay12 (xw m ρ c (kb false c)) (kw m ρ c 3) (kw m ρ c 0), Scalar.ofBits .f32 0x00000000#32⟩)
      -∗ WP c (onBuf (k0_part8_skel (F := F)) c v33 v61 v252) Q) := by
  unfold k0_part8_skel; simp only [Prog.lift, Prog.bind_op, Prog.bind_ret, Prog.pure_eq_ret]
  iintro #HR HC HX HK Ho0 Ho1 Hd0 Hd1 Hk
  iapply (send0 m ρ K c _ 6 true 512 (by decide) (dev9 c) (off13 c) rfl rfl rfl g) $$ HR HC Ho0 Hd0; iintro HC Hs0
  iapply (send0 m ρ K c _ 7 true 768 (by decide) (dev10 c) (off14 c) rfl rfl rfl g) $$ HR HC Ho1 Hd1; iintro HC Hs1
  iapply (load_x m ρ c (off15 c) (kb_lt false c)) $$ HX; iintro HX
  iapply (load_k m ρ c 3 rfl) $$ HK; iintro HK
  iapply (load_k m ρ c 0 rfl) $$ HK; iintro HK
  iapply (wp_done c _ Q)
  iapply Hk $$ HC HX HK Hs0 Hs1

theorem part9 {Q : _ → sProp 𝕄} (v63 : BitVec 32) : xPts m ρ c ⊢ iprop(kPts m ρ c -∗ wPts m ρ c -∗ aPts c (slot false) 0 1024 a
      -∗ (xPts m ρ c -∗ kPts m ρ c -∗ wPts m ρ c -∗ aPts c (slot false) 0 1024 (accC m ρ c)
        -∗ Q ⟨k0_pay14 (xw m ρ c (kb true c)), k0_pay15 (xw m ρ c (kb true c)) (kw m ρ c 3), Scalar.ofBits .f32 0x00000000#32⟩)
      -∗ WP c (onBuf (k0_part9_skel (F := F)) c v63 (k0_pay11 (xw m ρ c (kb false c))) (k0_pay12 (xw m ρ c (kb false c)) (kw m ρ c 3) (kw m ρ c 0))
        (Scalar.ofBits .f32 0x00000000#32)) Q) := by
  unfold k0_part9_skel; simp only [Prog.lift, Prog.bind_op, Prog.bind_ret, Prog.pure_eq_ret]
  iintro HX HK HW Ha Hk
  iapply (load_k m ρ c 1 rfl) $$ HK; iintro HK
  iapply (load_k m ρ c 2 rfl) $$ HK; iintro HK
  iapply (load_w m ρ c) $$ HW; iintro HW
  iapply (load_a' c rfl) $$ Ha; iintro %v Ha
  iapply (store_a m ρ c false rfl (fun x => (wide_at m ρ c _ x).symm)) $$ Ha; iintro Ha
  iapply (load_x m ρ c (off16 c) (kb_lt true c)) $$ HX; iintro HX
  iapply (load_k m ρ c 3 rfl) $$ HK; iintro HK
  iapply (wp_done c _ Q)
  iapply Hk $$ HX HK HW Ha

theorem part10 {Q : _ → sProp 𝕄} : kPts m ρ c ⊢ iprop(wPts m ρ c -∗ aPts c (slot true) 0 1024 a
      -∗ (kPts m ρ c -∗ wPts m ρ c -∗ aPts c (slot true) 0 1024 (accC m ρ c) -∗ Q ⟨⟩)
      -∗ WP c (onBuf (k0_part10_skel (F := F)) (k0_pay14 (xw m ρ c (kb true c))) (k0_pay15 (xw m ρ c (kb true c)) (kw m ρ c 3)) (Scalar.ofBits .f32 0x00000000#32)) Q) := by
  unfold k0_part10_skel; simp only [Prog.lift, Prog.bind_op, Prog.bind_ret, Prog.pure_eq_ret]
  iintro HK HW Ha Hk
  iapply (load_k m ρ c 0 rfl) $$ HK; iintro HK
  iapply (load_k m ρ c 1 rfl) $$ HK; iintro HK
  iapply (load_k m ρ c 2 rfl) $$ HK; iintro HK
  iapply (load_w m ρ c) $$ HW; iintro HW
  iapply (load_a' c rfl) $$ Ha; iintro %v Ha
  iapply (store_a m ρ c true rfl (fun x => (wide_at m ρ c _ x).symm)) $$ Ha; iintro Ha
  iapply (wp_done c _ Q)
  iapply Hk $$ HK HW Ha

end Cert.KernelIdeal.Reduce

end
-- ==== Proof.Pairs.lean ====
/-
# The pair sums

The parts of the body that add, chunk by chunk, what the first partner of a half sent to the product in the accumulator, store it
and send it to the second.
-/
module

public import proofs.«01_k».proof.Proof.Facts

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Bool × Fin 24) → ℕ) (c : Dev nD) {ls lr zs zr : List (Fin 24)} {f : Vec F S4x1024x512 .bf16} {g : Vec F S2x1024x512 .bf16}

/-- The accumulator's slot of half `h`; a chunk landed in each of the two landing buffers; a kept chunk of the result array; and the
    places on the partners that the second and the third copy of a chunk go to. -/
abbrev accP (h : Bool) : sProp 𝕄 := aPts c (slot h) 0 1024 (accC m ρ c)
abbrev land1 (h : Bool) (r : ℕ) : sProp 𝕄 := s1Pts c (slot h) r 256 (st1C m ρ c)
abbrev land2 (h : Bool) (r : ℕ) : sProp 𝕄 := s2Pts c (slot h) r 256 (st2C m ρ c)
abbrev kept (h : Bool) (r : ℕ) (f : Vec F S4x1024x512 .bf16) : sProp 𝕄 := oPts c (kb h c) r 256 f
abbrev given (h : Bool) (r : ℕ) : sProp 𝕄 := oPts c (nb h c) r 256 (oTotal m ρ (peer h c))
abbrev dest2 (h : Bool) (r : ℕ) (g : Vec F S2x1024x512 .bf16) : sProp 𝕄 := s2Pts (peer (!h) c) (slot h) r 256 g
abbrev dest3 (h : Bool) (r : ℕ) : sProp 𝕄 := oPts (peer h c) (kb h c) r 256 (oPart m ρ (peer h c))
/-- What a chunk's stores are computed from. -/
abbrev wideW (h : Bool) (r : ℕ) : Vec F S1x256x512 .f32 := win (wide m ρ c (kb h c)) r
abbrev partW (h : Bool) (r : ℕ) : Vec F S1x256x512 .bf16 := win (part m ρ (peer h c) (kb h c)) r
abbrev pairW (h : Bool) (r : ℕ) : Vec F S1x256x512 .bf16 := win (pairSum m ρ (peer (!h) c) h) r

theorem part11 {Q : _ → sProp 𝕄} (v32 v33 v61 : BitVec 32) (h0 : ∀ u ∈ (ls : List (Fin 24)), 2 + phase 0 < 2 + phase u) : Rec m ρ K ⊢ iprop(Ctl c ls (0 :: lr) zs zr -∗ started c 0 -∗ accP m ρ c false -∗ kept c false 0 f
      -∗ (Ctl c ls lr (0 :: zs) (0 :: zr) -∗ land1 m ρ c false 0 -∗ dest3 m ρ c false 0 -∗ accP m ρ c false -∗ kept c false 0 (oPair m ρ c) -∗ Q ⟨⟩)
      -∗ WP c (onBuf (k0_part11_skel (F := F)) c v32 v33 v61) Q) := by
  unfold k0_part11_skel; simp only [Prog.lift, Prog.bind_op, Prog.bind_ret, Prog.pure_eq_ret]
  iintro #HR HC Hs0 Ha0 Ho00 Hk
  iapply (wait_send0 m ρ K c 0 rfl (oWin_credit _ _) (by decide)) $$ HR HC Hs0; iintro HC
  iapply (wait_recv0 m ρ K c 0 false 0 rfl (s1Win_credit _ _) (by decide) h0) $$ HR HC; iintro HC Hl100 Hd00
  iapply (load_a m ρ c false 0 (by decide) rfl) $$ Ha0; iintro Ha0
  iapply (load_s1 m ρ c false 0 rfl) $$ Hl100; iintro Hl100
  iapply (load_o c (off17 c)) $$ Ho00; iintro %v00 Ho00
  iapply (store_pair m ρ c false 0 (off17 c) (fun _ => rfl)) $$ Ho00; iintro Ho00
  iapply (wp_done c _ Q)
  iapply Hk $$ HC Hl100 Hd00 Ha0 Ho00

theorem part12 {Q : _ → sProp 𝕄} (v33 v63 : BitVec 32) (h4 : ∀ u ∈ (ls : List (Fin 24)), 2 + phase 4 < 2 + phase u) : Rec m ρ K ⊢ iprop(Ctl c (8 :: ls) (4 :: lr) zs zr -∗ kept c false 0 (oPair m ρ c) -∗ dest2 c false 0 g -∗ started c 4 -∗ accP m ρ c true
      -∗ (Ctl c ls lr (4 :: zs) (4 :: zr) -∗ started c 8 -∗ land1 m ρ c true 0 -∗ dest3 m ρ c true 0 -∗ accP m ρ c true -∗ Q (k0_pay18 (wideW m ρ c true 0) (partW m ρ c true 0)))
      -∗ WP c (onBuf (k0_part12_skel (F := F)) c v33 v63) Q) := by
  unfold k0_part12_skel; simp only [Prog.lift, Prog.bind_op, Prog.bind_ret, Prog.pure_eq_ret]
  iintro #HR HC Ho00 He00 Hs4 Ha1 Hk
  iapply (send1 m ρ K c _ 8 false 0 (by decide) (dev11 c) (off18 c) rfl rfl rfl g) $$ HR HC Ho00 He00; iintro HC Hs8
  iapply (wait_send0 m ρ K c 4 rfl (oWin_credit _ _) (by decide)) $$ HR HC Hs4; iintro HC
  iapply (wait_recv0 m ρ K c 4 true 0 rfl (s1Win_credit _ _) (by decide) h4) $$ HR HC; iintro HC Hl110 Hd10
  iapply (load_a m ρ c true 0 (by decide) rfl) $$ Ha1; iintro Ha1
  iapply (load_s1 m ρ c true 0 rfl) $$ Hl110; iintro Hl110
  iapply (wp_done c _ Q)
  iapply Hk $$ HC Hs8 Hl110 Hd10 Ha1

theorem part13 {Q : _ → sProp 𝕄} (v32 : BitVec 32) (h1 : ∀ u ∈ (ls : List (Fin 24)), 2 + phase 1 < 2 + phase u) : Rec m ρ K ⊢ iprop(Ctl c (12 :: ls) (1 :: lr) zs zr -∗ kept c true 0 f -∗ dest2 c true 0 g -∗ started c 1
      -∗ (Ctl c ls lr (1 :: zs) (1 :: zr) -∗ started c 12 -∗ land1 m ρ c false 256 -∗ dest3 m ρ c false 256 -∗ Q ⟨⟩)
      -∗ WP c (onBuf (k0_part13_skel (F := F)) c v32 (k0_pay18 (wideW m ρ c true 0) (partW m ρ c true 0))) Q) := by
  unfold k0_part13_skel; simp only [Prog.lift, Prog.bind_op, Prog.bind_ret, Prog.pure_eq_ret]
  iintro #HR HC Ho10 He10 Hs1 Hk
  iapply (load_o c (off19 c)) $$ Ho10; iintro %v10 Ho10
  iapply (store_pair m ρ c true 0 (off19 c) (fun _ => rfl)) $$ Ho10; iintro Ho10
  iapply (send1 m ρ K c _ 12 true 0 (by decide) (dev12 c) (off20 c) rfl rfl rfl g) $$ HR HC Ho10 He10; iintro HC Hs12
  iapply (wait_send0 m ρ K c 1 rfl (oWin_credit _ _) (by decide)) $$ HR HC Hs1; iintro HC
  iapply (wait_recv0 m ρ K c 1 false 256 rfl (s1Win_credit _ _) (by decide) h1) $$ HR HC; iintro HC Hl10256 Hd0256
  iapply (wp_done c _ Q)
  iapply Hk $$ HC Hs12 Hl10256 Hd0256

theorem part14 {Q : _ → sProp 𝕄} (v33 v61 : BitVec 32) : Rec m ρ K ⊢ iprop(Ctl c (9 :: ls) lr zs zr -∗ accP m ρ c false -∗ land1 m ρ c false 256 -∗ kept c false 256 f -∗ dest2 c false 256 g -∗ started c 5
      -∗ (Ctl c ls lr (5 :: zs) zr -∗ accP m ρ c false -∗ land1 m ρ c false 256 -∗ started c 9 -∗ Q ⟨⟩)
      -∗ WP c (onBuf (k0_part14_skel (F := F)) c v33 v61) Q) := by
  unfold k0_part14_skel; simp only [Prog.lift, Prog.bind_op, Prog.bind_ret, Prog.pure_eq_ret]
  iintro #HR HC Ha0 Hl10256 Ho0256 He0256 Hs5 Hk
  iapply (load_a m ρ c false 256 (by decide) rfl) $$ Ha0; iintro Ha0
  iapply (load_s1 m ρ c false 256 rfl) $$ Hl10256; iintro Hl10256
  iapply (load_o c (off21 c)) $$ Ho0256; iintro %v0256 Ho0256
  iapply (store_pair m ρ c false 1 (off21 c) (fun _ => rfl)) $$ Ho0256; iintro Ho0256
  iapply (send1 m ρ K c _ 9 false 256 (by decide) (dev13 c) (off22 c) rfl rfl rfl g) $$ HR HC Ho0256 He0256; iintro HC Hs9
  iapply (wait_send0 m ρ K c 5 rfl (oWin_credit _ _) (by decide)) $$ HR HC Hs5; iintro HC
  iapply (wp_done c _ Q)
  iapply Hk $$ HC Ha0 Hl10256 Hs9

theorem part15 {Q : _ → sProp 𝕄} (v32 v63 : BitVec 32) (h5 : ∀ u ∈ ((13 :: ls) : List (Fin 24)), 2 + phase 5 < 2 + phase u) : Rec m ρ K ⊢ iprop(Ctl c (13 :: ls) (5 :: lr) zs zr -∗ accP m ρ c true -∗ kept c true 256 f -∗ dest2 c true 256 g
      -∗ (Ctl c ls lr zs (5 :: zr) -∗ land1 m ρ c true 256 -∗ dest3 m ρ c true 256 -∗ accP m ρ c true -∗ started c 13 -∗ Q ⟨⟩)
      -∗ WP c (onBuf (k0_part15_skel (F := F)) c v32 v63) Q) := by
  unfold k0_part15_skel; simp only [Prog.lift, Prog.bind_op, Prog.bind_ret, Prog.pure_eq_ret]
  iintro #HR HC Ha1 Ho1256 He1256 Hk
  iapply (wait_recv0 m ρ K c 5 true 256 rfl (s1Win_credit _ _) (by decide) h5) $$ HR HC; iintro HC Hl11256 Hd1256
  iapply (load_a m ρ c true 256 (by decide) rfl) $$ Ha1; iintro Ha1
  iapply (load_s1 m ρ c true 256 rfl) $$ Hl11256; iintro Hl11256
  iapply (load_o c (off23 c)) $$ Ho1256; iintro %v1256 Ho1256
  iapply (store_pair m ρ c true 1 (off23 c) (fun _ => rfl)) $$ Ho1256; iintro Ho1256
  iapply (send1 m ρ K c _ 13 true 256 (by decide) (dev14 c) (off24 c) rfl rfl rfl g) $$ HR HC Ho1256 He1256; iintro HC Hs13
  iapply (wp_done c _ Q)
  iapply Hk $$ HC Hl11256 Hd1256 Ha1 Hs13

theorem part16 {Q : _ → sProp 𝕄} (v32 v33 v61 : BitVec 32) (h2 : ∀ u ∈ (ls : List (Fin 24)), 2 + phase 2 < 2 + phase u) : Rec m ρ K ⊢ iprop(Ctl c ls (2 :: lr) zs zr -∗ started c 2 -∗ accP m ρ c false -∗ kept c false 512 f
      -∗ (Ctl c ls lr (2 :: zs) (2 :: zr) -∗ land1 m ρ c false 512 -∗ dest3 m ρ c false 512 -∗ accP m ρ c false -∗ kept c false 512 (oPair m ρ c) -∗ Q ⟨⟩)
      -∗ WP c (onBuf (k0_part16_skel (F := F)) c v32 v33 v61) Q) := by
  unfold k0_part16_skel; simp only [Prog.lift, Prog.bind_op, Prog.bind_ret, Prog.pure_eq_ret]
  iintro #HR HC Hs2 Ha0 Ho0512 Hk
  iapply (wait_send0 m ρ K c 2 rfl (oWin_credit _ _) (by decide)) $$ HR HC Hs2; iintro HC
  iapply (wait_recv0 m ρ K c 2 false 512 rfl (s1Win_credit _ _) (by decide) h2) $$ HR HC; iintro HC Hl10512 Hd0512
  iapply (load_a m ρ c false 512 (by decide) rfl) $$ Ha0; iintro Ha0
  iapply (load_s1 m ρ c false 512 rfl) $$ Hl10512; iintro Hl10512
  iapply (load_o c (off25 c)) $$ Ho0512; iintro %v0512 Ho0512
  iapply (store_pair m ρ c false 2 (off25 c) (fun _ => rfl)) $$ Ho0512; iintro Ho0512
  iapply (wp_done c _ Q)
  iapply Hk $$ HC Hl10512 Hd0512 Ha0 Ho0512

theorem part17 {Q : _ → sProp 𝕄} (v33 v63 : BitVec 32) (h6 : ∀ u ∈ (ls : List (Fin 24)), 2 + phase 6 < 2 + phase u) : Rec m ρ K ⊢ iprop(Ctl c (10 :: ls) (6 :: lr) zs zr -∗ kept c false 512 (oPair m ρ c) -∗ dest2 c false 512 g -∗ started c 6 -∗ accP m ρ c true -∗ kept c true 512 f
      -∗ (Ctl c ls lr (6 :: zs) (6 :: zr) -∗ started c 10 -∗ land1 m ρ c true 512 -∗ dest3 m ρ c true 512 -∗ accP m ρ c true -∗ kept c true 512 (oPair m ρ c) -∗ Q ⟨⟩)
      -∗ WP c (onBuf (k0_part17_skel (F := F)) c v33 v63) Q) := by
  unfold k0_part17_skel; simp only [Prog.lift, Prog.bind_op, Prog.bind_ret, Prog.pure_eq_ret]
  iintro #HR HC Ho0512 He0512 Hs6 Ha1 Ho1512 Hk
  iapply (send1 m ρ K c _ 10 false 512 (by decide) (dev15 c) (off26 c) rfl rfl rfl g) $$ HR HC Ho0512 He0512; iintro HC Hs10
  iapply (wait_send0 m ρ K c 6 rfl (oWin_credit _ _) (by decide)) $$ HR HC Hs6; iintro HC
  iapply (wait_recv0 m ρ K c 6 true 512 rfl (s1Win_credit _ _) (by decide) h6) $$ HR HC; iintro HC Hl11512 Hd1512
  iapply (load_a m ρ c true 512 (by decide) rfl) $$ Ha1; iintro Ha1
  iapply (load_s1 m ρ c true 512 rfl) $$ Hl11512; iintro Hl11512
  iapply (load_o c (off27 c)) $$ Ho1512; iintro %v1512 Ho1512
  iapply (store_pair m ρ c true 2 (off27 c) (fun _ => rfl)) $$ Ho1512; iintro Ho1512
  iapply (wp_done c _ Q)
  iapply Hk $$ HC Hs10 Hl11512 Hd1512 Ha1 Ho1512

theorem part18 {Q : _ → sProp 𝕄} (v32 : BitVec 32) (h3 : ∀ u ∈ (ls : List (Fin 24)), 2 + phase 3 < 2 + phase u) : Rec m ρ K ⊢ iprop(Ctl c (14 :: ls) (3 :: lr) zs zr -∗ kept c true 512 (oPair m ρ c) -∗ dest2 c true 512 g -∗ started c 3 -∗ accP m ρ c false
      -∗ (Ctl c ls lr (3 :: zs) (3 :: zr) -∗ started c 14 -∗ land1 m ρ c false 768 -∗ dest3 m ρ c false 768 -∗ accP m ρ c false -∗ Q ⟨k0_pay24 (wideW m ρ c false 768), k0_pay25 (partW m ρ c false 768)⟩)
      -∗ WP c (onBuf (k0_part18_skel (F := F)) c v32) Q) := by
  unfold k0_part18_skel; simp only [Prog.lift, Prog.bind_op, Prog.bind_ret, Prog.pure_eq_ret]
  iintro #HR HC Ho1512 He1512 Hs3 Ha0 Hk
  iapply (send1 m ρ K c _ 14 true 512 (by decide) (dev16 c) (off28 c) rfl rfl rfl g) $$ HR HC Ho1512 He1512; iintro HC Hs14
  iapply (wait_send0 m ρ K c 3 rfl (oWin_credit _ _) (by decide)) $$ HR HC Hs3; iintro HC
  iapply (wait_recv0 m ρ K c 3 false 768 rfl (s1Win_credit _ _) (by decide) h3) $$ HR HC; iintro HC Hl10768 Hd0768
  iapply (load_a m ρ c false 768 (by decide) rfl) $$ Ha0; iintro Ha0
  iapply (load_s1 m ρ c false 768 rfl) $$ Hl10768; iintro Hl10768
  iapply (wp_done c _ Q)
  iapply Hk $$ HC Hs14 Hl10768 Hd0768 Ha0

theorem part19 {Q : _ → sProp 𝕄} (v33 v61 : BitVec 32) : Rec m ρ K ⊢ iprop(Ctl c (11 :: ls) lr zs zr -∗ kept c false 768 f -∗ dest2 c false 768 g -∗ started c 7
      -∗ (Ctl c ls lr (7 :: zs) zr -∗ started c 11 -∗ Q ⟨⟩)
      -∗ WP c (onBuf (k0_part19_skel (F := F)) c v33 v61 (k0_pay24 (wideW m ρ c false 768)) (k0_pay25 (partW m ρ c false 768))) Q) := by
  unfold k0_part19_skel; simp only [Prog.lift, Prog.bind_op, Prog.bind_ret, Prog.pure_eq_ret]
  iintro #HR HC Ho0768 He0768 Hs7 Hk
  iapply (load_o c (off29 c)) $$ Ho0768; iintro %v0768 Ho0768
  iapply (store_pair m ρ c false 3 (off29 c) (fun _ => rfl)) $$ Ho0768; iintro Ho0768
  iapply (send1 m ρ K c _ 11 false 768 (by decide) (dev17 c) (off30 c) rfl rfl rfl g) $$ HR HC Ho0768 He0768; iintro HC Hs11
  iapply (wait_send0 m ρ K c 7 rfl (oWin_credit _ _) (by decide)) $$ HR HC Hs7; iintro HC
  iapply (wp_done c _ Q)
  iapply Hk $$ HC Hs11

theorem part20 {Q : _ → sProp 𝕄} (v32 v63 : BitVec 32) (h7 : ∀ u ∈ ((15 :: ls) : List (Fin 24)), 2 + phase 7 < 2 + phase u) : Rec m ρ K ⊢ iprop(Ctl c (15 :: ls) (7 :: lr) zs zr -∗ accP m ρ c true -∗ kept c true 768 f -∗ dest2 c true 768 g -∗ started c 8
      -∗ (Ctl c ls lr (8 :: zs) (7 :: zr) -∗ land1 m ρ c true 768 -∗ dest3 m ρ c true 768 -∗ accP m ρ c true -∗ started c 15 -∗ kept c false 0 (oPair m ρ c) -∗ Q ⟨⟩)
      -∗ WP c (onBuf (k0_part20_skel (F := F)) c v32 v63) Q) := by
  unfold k0_part20_skel; simp only [Prog.lift, Prog.bind_op, Prog.bind_ret, Prog.pure_eq_ret]
  iintro #HR HC Ha1 Ho1768 He1768 Hs8 Hk
  iapply (wait_recv0 m ρ K c 7 true 768 rfl (s1Win_credit _ _) (by decide) h7) $$ HR HC; iintro HC Hl11768 Hd1768
  iapply (load_a m ρ c true 768 (by decide) rfl) $$ Ha1; iintro Ha1
  iapply (load_s1 m ρ c true 768 rfl) $$ Hl11768; iintro Hl11768
  iapply (load_o c (off31 c)) $$ Ho1768; iintro %v1768 Ho1768
  iapply (store_pair m ρ c true 3 (off31 c) (fun _ => rfl)) $$ Ho1768; iintro Ho1768
  iapply (send1 m ρ K c _ 15 true 768 (by decide) (dev18 c) (off32 c) rfl rfl rfl g) $$ HR HC Ho1768 He1768; iintro HC Hs15
  iapply (wait_send1 m ρ K c 8 false 0 rfl (oWin_credit _ _) (by decide)) $$ HR HC Hs8; iintro HC Ho00
  iapply (wp_done c _ Q)
  iapply Hk $$ HC Hl11768 Hd1768 Ha1 Hs15 Ho00

end Cert.KernelIdeal.Reduce

end
-- ==== Proof.Totals.lean ====
/-
# The complete sums

The parts of the body that add the pair sums that landed, store the complete sums of the kept batches, send them to the partner that
gave the batch away, and wait for everything that is still under way.
-/
module

public import proofs.«01_k».proof.Proof.Pairs

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Bool × Fin 24) → ℕ) (c : Dev nD) {ls lr zs zr : List (Fin 24)} {f : Vec F S4x1024x512 .bf16} {g : Vec F S2x1024x512 .bf16}

theorem part21 {Q : _ → sProp 𝕄} (v32 v33 v61 : BitVec 32) (h8 : ∀ u ∈ (ls : List (Fin 24)), 2 + phase 8 < 2 + phase u) : Rec m ρ K ⊢ iprop(Ctl c ls (8 :: lr) zs zr -∗ accP m ρ c false -∗ land1 m ρ c false 0 -∗ kept c false 0 (oPair m ρ c)
      -∗ (Ctl c ls lr zs (8 :: zr) -∗ land2 m ρ c false 0 -∗ accP m ρ c false -∗ land1 m ρ c false 0 -∗ kept c false 0 (oTotal m ρ c) -∗ Q ⟨⟩)
      -∗ WP c (onBuf (k0_part21_skel (F := F)) c v32 v33 v61) Q) := by
  unfold k0_part21_skel; simp only [Prog.lift, Prog.bind_op, Prog.bind_ret, Prog.pure_eq_ret]
  iintro #HR HC Ha0 Hl100 Ho00 Hk
  iapply (wait_recv1 m ρ K c 8 false 0 rfl (s2Win_credit _ _) (by decide) h8) $$ HR HC; iintro HC Hl200
  iapply (load_a m ρ c false 0 (by decide) rfl) $$ Ha0; iintro Ha0
  iapply (load_s1 m ρ c false 0 rfl) $$ Hl100; iintro Hl100
  iapply (load_s2 m ρ c false 0 rfl) $$ Hl200; iintro Hl200
  iapply (load_o c (off17 c)) $$ Ho00; iintro %v00 Ho00
  iapply (store_total m ρ c false 0 (off17 c) (fun _ => rfl)) $$ Ho00; iintro Ho00
  iapply (wp_done c _ Q)
  iapply Hk $$ HC Hl200 Ha0 Hl100 Ho00

theorem part22 {Q : _ → sProp 𝕄} (v32 v63 : BitVec 32) (h12 : ∀ u ∈ (ls : List (Fin 24)), 2 + phase 12 < 2 + phase u) : Rec m ρ K ⊢ iprop(Ctl c (16 :: ls) (12 :: lr) zs zr -∗ kept c false 0 (oTotal m ρ c) -∗ dest3 m ρ c false 0 -∗ started c 12 -∗ accP m ρ c true -∗ land1 m ρ c true 0
      -∗ (Ctl c ls lr (12 :: zs) (12 :: zr) -∗ started c 16 -∗ kept c true 0 (oPair m ρ c) -∗ land2 m ρ c true 0 -∗ accP m ρ c true -∗ land1 m ρ c true 0 -∗ Q (k0_pay29 (wideW m ρ c true 0) (partW m ρ c true 0) (pairW m ρ c true 0)))
      -∗ WP c (onBuf (k0_part22_skel (F := F)) c v32 v63) Q) := by
  unfold k0_part22_skel; simp only [Prog.lift, Prog.bind_op, Prog.bind_ret, Prog.pure_eq_ret]
  iintro #HR HC Ho00 Hd00 Hs12 Ha1 Hl110 Hk
  iapply (send2 m ρ K c _ 16 false 0 (by decide) (dev19 c) (off18 c) (off18 c) rfl rfl (oPart m ρ (peer false c))) $$ HR HC Ho00 Hd00; iintro HC Hs16
  iapply (wait_send1 m ρ K c 12 true 0 rfl (oWin_credit _ _) (by decide)) $$ HR HC Hs12; iintro HC Ho10
  iapply (wait_recv1 m ρ K c 12 true 0 rfl (s2Win_credit _ _) (by decide) h12) $$ HR HC; iintro HC Hl210
  iapply (load_a m ρ c true 0 (by decide) rfl) $$ Ha1; iintro Ha1
  iapply (load_s1 m ρ c true 0 rfl) $$ Hl110; iintro Hl110
  iapply (load_s2 m ρ c true 0 rfl) $$ Hl210; iintro Hl210
  iapply (load_o c (off19 c)) $$ Ho10; iintro %v10 Ho10
  iapply (wp_done c _ Q)
  iapply Hk $$ HC Hs16 Ho10 Hl210 Ha1 Hl110

theorem part23 {Q : _ → sProp 𝕄} (v33 : BitVec 32) (h9 : ∀ u ∈ (ls : List (Fin 24)), 2 + phase 9 < 2 + phase u) : Rec m ρ K ⊢ iprop(Ctl c (20 :: ls) (9 :: lr) zs zr -∗ kept c true 0 (oPair m ρ c) -∗ dest3 m ρ c true 0 -∗ started c 9 -∗ accP m ρ c false
      -∗ (Ctl c ls lr (9 :: zs) (9 :: zr) -∗ started c 20 -∗ kept c false 256 (oPair m ρ c) -∗ land2 m ρ c false 256 -∗ accP m ρ c false -∗ Q (k0_pay31 (wideW m ρ c false 256)))
      -∗ WP c (onBuf (k0_part23_skel (F := F)) c v33 (k0_pay29 (wideW m ρ c true 0) (partW m ρ c true 0) (pairW m ρ c true 0))) Q) := by
  unfold k0_part23_skel; simp only [Prog.lift, Prog.bind_op, Prog.bind_ret, Prog.pure_eq_ret]
  iintro #HR HC Ho10 Hd10 Hs9 Ha0 Hk
  iapply (store_total m ρ c true 0 (off19 c) (fun _ => rfl)) $$ Ho10; iintro Ho10
  iapply (send2 m ρ K c _ 20 true 0 (by decide) (dev20 c) (off20 c) (off20 c) rfl rfl (oPart m ρ (peer true c))) $$ HR HC Ho10 Hd10; iintro HC Hs20
  iapply (wait_send1 m ρ K c 9 false 256 rfl (oWin_credit _ _) (by decide)) $$ HR HC Hs9; iintro HC Ho0256
  iapply (wait_recv1 m ρ K c 9 false 256 rfl (s2Win_credit _ _) (by decide) h9) $$ HR HC; iintro HC Hl20256
  iapply (load_a m ρ c false 256 (by decide) rfl) $$ Ha0; iintro Ha0
  iapply (wp_done c _ Q)
  iapply Hk $$ HC Hs20 Ho0256 Hl20256 Ha0

theorem part24 {Q : _ → sProp 𝕄} (v32 v61 : BitVec 32) : Rec m ρ K ⊢ iprop(Ctl c (17 :: ls) lr zs zr -∗ land1 m ρ c false 256 -∗ land2 m ρ c false 256 -∗ kept c false 256 (oPair m ρ c) -∗ dest3 m ρ c false 256 -∗ started c 13
      -∗ (∀ w, Ctl c ls lr (13 :: zs) zr -∗ land1 m ρ c false 256 -∗ land2 m ρ c false 256 -∗ started c 17 -∗ kept c true 256 (oPair m ρ c) -∗ Q w)
      -∗ WP c (onBuf (k0_part24_skel (F := F)) c v32 v61 (k0_pay31 (wideW m ρ c false 256))) Q) := by
  unfold k0_part24_skel; simp only [Prog.lift, Prog.bind_op, Prog.bind_ret, Prog.pure_eq_ret]
  iintro #HR HC Hl10256 Hl20256 Ho0256 Hd0256 Hs13 Hk
  iapply (load_s1 m ρ c false 256 rfl) $$ Hl10256; iintro Hl10256
  iapply (load_s2 m ρ c false 256 rfl) $$ Hl20256; iintro Hl20256
  iapply (load_o c (off21 c)) $$ Ho0256; iintro %v0256 Ho0256
  iapply (store_total m ρ c false 1 (off21 c) (fun _ => rfl)) $$ Ho0256; iintro Ho0256
  iapply (send2 m ρ K c _ 17 false 256 (by decide) (dev21 c) (off22 c) (off22 c) rfl rfl (oPart m ρ (peer false c))) $$ HR HC Ho0256 Hd0256; iintro HC Hs17
  iapply (wait_send1 m ρ K c 13 true 256 rfl (oWin_credit _ _) (by decide)) $$ HR HC Hs13; iintro HC Ho1256
  iapply (wp_done c _ Q)
  iapply Hk $$ HC Hl10256 Hl20256 Hs17 Ho1256

theorem part25 {Q : _ → sProp 𝕄} (v33 v63 v773 : BitVec 32) (h13 : ∀ u ∈ ((21 :: ls) : List (Fin 24)), 2 + phase 13 < 2 + phase u) : Rec m ρ K ⊢ iprop(Ctl c (21 :: ls) (13 :: lr) zs zr -∗ accP m ρ c true -∗ land1 m ρ c true 256 -∗ kept c true 256 (oPair m ρ c) -∗ dest3 m ρ c true 256
      -∗ (Ctl c ls lr zs (13 :: zr) -∗ land2 m ρ c true 256 -∗ accP m ρ c true -∗ land1 m ρ c true 256 -∗ started c 21 -∗ Q ⟨⟩)
      -∗ WP c (onBuf (k0_part25_skel (F := F)) c v33 v63 v773) Q) := by
  unfold k0_part25_skel; simp only [Prog.lift, Prog.bind_op, Prog.bind_ret, Prog.pure_eq_ret]
  iintro #HR HC Ha1 Hl11256 Ho1256 Hd1256 Hk
  iapply (wait_recv1 m ρ K c 13 true 256 rfl (s2Win_credit _ _) (by decide) h13) $$ HR HC; iintro HC Hl21256
  iapply (load_a m ρ c true 256 (by decide) rfl) $$ Ha1; iintro Ha1
  iapply (load_s1 m ρ c true 256 rfl) $$ Hl11256; iintro Hl11256
  iapply (load_s2 m ρ c true 256 rfl) $$ Hl21256; iintro Hl21256
  iapply (load_o c (off23 c)) $$ Ho1256; iintro %v1256 Ho1256
  iapply (store_total m ρ c true 1 (off23 c) (fun _ => rfl)) $$ Ho1256; iintro Ho1256
  iapply (send2 m ρ K c _ 21 true 256 (by decide) (dev22 c) (off24 c) (off24 c) rfl rfl (oPart m ρ (peer true c))) $$ HR HC Ho1256 Hd1256; iintro HC Hs21
  iapply (wp_done c _ Q)
  iapply Hk $$ HC Hl21256 Ha1 Hl11256 Hs21

theorem part26 {Q : _ → sProp 𝕄} (v33 v61 : BitVec 32) (h10 : ∀ u ∈ (ls : List (Fin 24)), 2 + phase 10 < 2 + phase u) : Rec m ρ K ⊢ iprop(Ctl c ls (10 :: lr) zs zr -∗ started c 10 -∗ accP m ρ c false -∗ land1 m ρ c false 512
      -∗ (Ctl c ls lr (10 :: zs) (10 :: zr) -∗ kept c false 512 (oTotal m ρ c) -∗ land2 m ρ c false 512 -∗ accP m ρ c false -∗ land1 m ρ c false 512 -∗ Q ⟨⟩)
      -∗ WP c (onBuf (k0_part26_skel (F := F)) c v33 v61) Q) := by
  unfold k0_part26_skel; simp only [Prog.lift, Prog.bind_op, Prog.bind_ret, Prog.pure_eq_ret]
  iintro #HR HC Hs10 Ha0 Hl10512 Hk
  iapply (wait_send1 m ρ K c 10 false 512 rfl (oWin_credit _ _) (by decide)) $$ HR HC Hs10; iintro HC Ho0512
  iapply (wait_recv1 m ρ K c 10 false 512 rfl (s2Win_credit _ _) (by decide) h10) $$ HR HC; iintro HC Hl20512
  iapply (load_a m ρ c false 512 (by decide) rfl) $$ Ha0; iintro Ha0
  iapply (load_s1 m ρ c false 512 rfl) $$ Hl10512; iintro Hl10512
  iapply (load_s2 m ρ c false 512 rfl) $$ Hl20512; iintro Hl20512
  iapply (load_o c (off25 c)) $$ Ho0512; iintro %v0512 Ho0512
  iapply (store_total m ρ c false 2 (off25 c) (fun _ => rfl)) $$ Ho0512; iintro Ho0512
  iapply (wp_done c _ Q)
  iapply Hk $$ HC Ho0512 Hl20512 Ha0 Hl10512

theorem part27 {Q : _ → sProp 𝕄} (v32 : BitVec 32) (h14 : ∀ u ∈ (ls : List (Fin 24)), 2 + phase 14 < 2 + phase u) : Rec m ρ K ⊢ iprop(Ctl c (18 :: ls) (14 :: lr) zs zr -∗ kept c false 512 (oTotal m ρ c) -∗ dest3 m ρ c false 512 -∗ started c 14 -∗ accP m ρ c true -∗ land1 m ρ c true 512
      -∗ (Ctl c ls lr (14 :: zs) (14 :: zr) -∗ started c 18 -∗ kept c true 512 (oPair m ρ c) -∗ land2 m ρ c true 512 -∗ accP m ρ c true -∗ land1 m ρ c true 512 -∗ Q ⟨k0_pay35 (wideW m ρ c true 512), (partW m ρ c true 512)⟩)
      -∗ WP c (onBuf (k0_part27_skel (F := F)) c v32) Q) := by
  unfold k0_part27_skel; simp only [Prog.lift, Prog.bind_op, Prog.bind_ret, Prog.pure_eq_ret]
  iintro #HR HC Ho0512 Hd0512 Hs14 Ha1 Hl11512 Hk
  iapply (send2 m ρ K c _ 18 false 512 (by decide) (dev23 c) (off26 c) (off26 c) rfl rfl (oPart m ρ (peer false c))) $$ HR HC Ho0512 Hd0512; iintro HC Hs18
  iapply (wait_send1 m ρ K c 14 true 512 rfl (oWin_credit _ _) (by decide)) $$ HR HC Hs14; iintro HC Ho1512
  iapply (wait_recv1 m ρ K c 14 true 512 rfl (s2Win_credit _ _) (by decide) h14) $$ HR HC; iintro HC Hl21512
  iapply (load_a m ρ c true 512 (by decide) rfl) $$ Ha1; iintro Ha1
  iapply (load_s1 m ρ c true 512 rfl) $$ Hl11512; iintro Hl11512
  iapply (wp_done c _ Q)
  iapply Hk $$ HC Hs18 Ho1512 Hl21512 Ha1 Hl11512

theorem part28 {Q : _ → sProp 𝕄} (v33 v63 : BitVec 32) : Rec m ρ K ⊢ iprop(Ctl c (22 :: ls) lr zs zr -∗ land2 m ρ c true 512 -∗ kept c true 512 (oPair m ρ c) -∗ dest3 m ρ c true 512 -∗ started c 11
      -∗ (Ctl c ls lr (11 :: zs) zr -∗ land2 m ρ c true 512 -∗ started c 22 -∗ kept c false 768 (oPair m ρ c) -∗ Q ⟨⟩)
      -∗ WP c (onBuf (k0_part28_skel (F := F)) c v33 v63 (k0_pay35 (wideW m ρ c true 512)) (partW m ρ c true 512)) Q) := by
  unfold k0_part28_skel; simp only [Prog.lift, Prog.bind_op, Prog.bind_ret, Prog.pure_eq_ret]
  iintro #HR HC Hl21512 Ho1512 Hd1512 Hs11 Hk
  iapply (load_s2 m ρ c true 512 rfl) $$ Hl21512; iintro Hl21512
  iapply (load_o c (off27 c)) $$ Ho1512; iintro %v1512 Ho1512
  iapply (store_total m ρ c true 2 (off27 c) (fun _ => rfl)) $$ Ho1512; iintro Ho1512
  iapply (send2 m ρ K c _ 22 true 512 (by decide) (dev24 c) (off28 c) (off28 c) rfl rfl (oPart m ρ (peer true c))) $$ HR HC Ho1512 Hd1512; iintro HC Hs22
  iapply (wait_send1 m ρ K c 11 false 768 rfl (oWin_credit _ _) (by decide)) $$ HR HC Hs11; iintro HC Ho0768
  iapply (wp_done c _ Q)
  iapply Hk $$ HC Hl21512 Hs22 Ho0768

theorem part29 {Q : _ → sProp 𝕄} (v32 v61 : BitVec 32) (h11 : ∀ u ∈ ((19 :: ls) : List (Fin 24)), 2 + phase 11 < 2 + phase u) : Rec m ρ K ⊢ iprop(Ctl c (19 :: ls) (11 :: lr) zs zr -∗ accP m ρ c false -∗ land1 m ρ c false 768 -∗ kept c false 768 (oPair m ρ c) -∗ dest3 m ρ c false 768
      -∗ (Ctl c ls lr zs (11 :: zr) -∗ land2 m ρ c false 768 -∗ accP m ρ c false -∗ land1 m ρ c false 768 -∗ started c 19 -∗ Q ⟨⟩)
      -∗ WP c (onBuf (k0_part29_skel (F := F)) c v32 v61) Q) := by
  unfold k0_part29_skel; simp only [Prog.lift, Prog.bind_op, Prog.bind_ret, Prog.pure_eq_ret]
  iintro #HR HC Ha0 Hl10768 Ho0768 Hd0768 Hk
  iapply (wait_recv1 m ρ K c 11 false 768 rfl (s2Win_credit _ _) (by decide) h11) $$ HR HC; iintro HC Hl20768
  iapply (load_a m ρ c false 768 (by decide) rfl) $$ Ha0; iintro Ha0
  iapply (load_s1 m ρ c false 768 rfl) $$ Hl10768; iintro Hl10768
  iapply (load_s2 m ρ c false 768 rfl) $$ Hl20768; iintro Hl20768
  iapply (load_o c (off29 c)) $$ Ho0768; iintro %v0768 Ho0768
  iapply (store_total m ρ c false 3 (off29 c) (fun _ => rfl)) $$ Ho0768; iintro Ho0768
  iapply (send2 m ρ K c _ 19 false 768 (by decide) (dev25 c) (off30 c) (off30 c) rfl rfl (oPart m ρ (peer false c))) $$ HR HC Ho0768 Hd0768; iintro HC Hs19
  iapply (wp_done c _ Q)
  iapply Hk $$ HC Hl20768 Ha0 Hl10768 Hs19

theorem part30 {Q : _ → sProp 𝕄} (v32 v33 v63 : BitVec 32) (h15 : ∀ u ∈ (ls : List (Fin 24)), 2 + phase 15 < 2 + phase u) : Rec m ρ K ⊢ iprop(Ctl c ls (15 :: lr) zs zr -∗ started c 15 -∗ accP m ρ c true -∗ land1 m ρ c true 768
      -∗ (∀ w, Ctl c ls lr (15 :: zs) (15 :: zr) -∗ kept c true 768 (oTotal m ρ c) -∗ land2 m ρ c true 768 -∗ accP m ρ c true -∗ land1 m ρ c true 768 -∗ Q w)
      -∗ WP c (onBuf (k0_part30_skel (F := F)) c v32 v33 v63) Q) := by
  unfold k0_part30_skel; simp only [Prog.lift, Prog.bind_op, Prog.bind_ret, Prog.pure_eq_ret]
  iintro #HR HC Hs15 Ha1 Hl11768 Hk
  iapply (wait_send1 m ρ K c 15 true 768 rfl (oWin_credit _ _) (by decide)) $$ HR HC Hs15; iintro HC Ho1768
  iapply (wait_recv1 m ρ K c 15 true 768 rfl (s2Win_credit _ _) (by decide) h15) $$ HR HC; iintro HC Hl21768
  iapply (load_a m ρ c true 768 (by decide) rfl) $$ Ha1; iintro Ha1
  iapply (load_s1 m ρ c true 768 rfl) $$ Hl11768; iintro Hl11768
  iapply (load_s2 m ρ c true 768 rfl) $$ Hl21768; iintro Hl21768
  iapply (load_o c (off31 c)) $$ Ho1768; iintro %v1768 Ho1768
  iapply (store_total m ρ c true 3 (off31 c) (fun _ => rfl)) $$ Ho1768; iintro Ho1768
  iapply (wp_done c _ Q)
  iapply Hk $$ HC Ho1768 Hl21768 Ha1 Hl11768

theorem part31 {Q : _ → sProp 𝕄} (v952 : BitVec 32) : Rec m ρ K ⊢ iprop(Ctl c (23 :: ls) lr zs zr -∗ kept c true 768 (oTotal m ρ c) -∗ dest3 m ρ c true 768 -∗ started c 16 -∗ started c 17 -∗ started c 18
      -∗ (Ctl c ls lr (18 :: 17 :: 16 :: zs) zr -∗ started c 23 -∗ kept c false 0 (oTotal m ρ c) -∗ kept c false 256 (oTotal m ρ c) -∗ kept c false 512 (oTotal m ρ c) -∗ Q ⟨⟩)
      -∗ WP c (onBuf (k0_part31_skel (F := F)) c v952) Q) := by
  unfold k0_part31_skel; simp only [Prog.lift, Prog.bind_op, Prog.bind_ret, Prog.pure_eq_ret]
  iintro #HR HC Ho1768 Hd1768 Hs16 Hs17 Hs18 Hk
  iapply (send2 m ρ K c _ 23 true 768 (by decide) (dev26 c) (off32 c) (off32 c) rfl rfl (oPart m ρ (peer true c))) $$ HR HC Ho1768 Hd1768; iintro HC Hs23
  iapply (wait_send2 m ρ K c 16 false 0 rfl (oWin_credit _ _) (by decide)) $$ HR HC Hs16; iintro HC Ho00
  iapply (wait_send2 m ρ K c 17 false 256 rfl (oWin_credit _ _) (by decide)) $$ HR HC Hs17; iintro HC Ho0256
  iapply (wait_send2 m ρ K c 18 false 512 rfl (oWin_credit _ _) (by decide)) $$ HR HC Hs18; iintro HC Ho0512
  iapply (wp_done c _ Q)
  iapply Hk $$ HC Hs23 Ho00 Ho0256 Ho0512

theorem part32 {Q : _ → sProp 𝕄} : Rec m ρ K ⊢ iprop(Ctl c ls lr zs zr -∗ started c 19 -∗ started c 20 -∗ started c 21 -∗ started c 22
      -∗ (Ctl c ls lr (22 :: 21 :: 20 :: 19 :: zs) zr -∗ kept c false 768 (oTotal m ρ c) -∗ kept c true 0 (oTotal m ρ c) -∗ kept c true 256 (oTotal m ρ c) -∗ kept c true 512 (oTotal m ρ c) -∗ Q ⟨⟩)
      -∗ WP c (onBuf (k0_part32_skel (F := F)) c) Q) := by
  unfold k0_part32_skel; simp only [Prog.lift, Prog.bind_op, Prog.bind_ret, Prog.pure_eq_ret]
  iintro #HR HC Hs19 Hs20 Hs21 Hs22 Hk
  iapply (wait_send2 m ρ K c 19 false 768 rfl (oWin_credit _ _) (by decide)) $$ HR HC Hs19; iintro HC Ho0768
  iapply (wait_send2 m ρ K c 20 true 0 rfl (oWin_credit _ _) (by decide)) $$ HR HC Hs20; iintro HC Ho10
  iapply (wait_send2 m ρ K c 21 true 256 rfl (oWin_credit _ _) (by decide)) $$ HR HC Hs21; iintro HC Ho1256
  iapply (wait_send2 m ρ K c 22 true 512 rfl (oWin_credit _ _) (by decide)) $$ HR HC Hs22; iintro HC Ho1512
  iapply (wp_done c _ Q)
  iapply Hk $$ HC Ho0768 Ho10 Ho1256 Ho1512

theorem part33 {Q : _ → sProp 𝕄} (v32 : BitVec 32) : Rec m ρ K ⊢ iprop(Ctl c [] (16 :: 17 :: 18 :: lr) zs zr -∗ started c 23
      -∗ (Ctl c [] lr (23 :: zs) (18 :: 17 :: 16 :: zr) -∗ kept c true 768 (oTotal m ρ c) -∗ given m ρ c false 0 -∗ given m ρ c false 256 -∗ given m ρ c false 512 -∗ Q ⟨⟩)
      -∗ WP c (onBuf (k0_part33_skel (F := F)) c v32) Q) := by
  unfold k0_part33_skel; simp only [Prog.lift, Prog.bind_op, Prog.bind_ret, Prog.pure_eq_ret]
  iintro #HR HC Hs23 Hk
  iapply (wait_send2 m ρ K c 23 true 768 rfl (oWin_credit _ _) (by decide)) $$ HR HC Hs23; iintro HC Ho1768
  iapply (wait_recv2 m ρ K c 16 false 0 rfl (oWin_credit _ _) (by decide) (by simp)) $$ HR HC; iintro HC Hg00
  iapply (wait_recv2 m ρ K c 17 false 256 rfl (oWin_credit _ _) (by decide) (by simp)) $$ HR HC; iintro HC Hg0256
  iapply (wait_recv2 m ρ K c 18 false 512 rfl (oWin_credit _ _) (by decide) (by simp)) $$ HR HC; iintro HC Hg0512
  iapply (wp_done c _ Q)
  iapply Hk $$ HC Ho1768 Hg00 Hg0256 Hg0512

theorem part34 {Q : _ → sProp 𝕄} (v32 v33 : BitVec 32) : Rec m ρ K ⊢ iprop(Ctl c [] (19 :: 20 :: 21 :: lr) zs zr
      -∗ (Ctl c [] lr zs (21 :: 20 :: 19 :: zr) -∗ given m ρ c false 768 -∗ given m ρ c true 0 -∗ given m ρ c true 256 -∗ Q ⟨⟩)
      -∗ WP c (onBuf (k0_part34_skel (F := F)) c v32 v33) Q) := by
  unfold k0_part34_skel; simp only [Prog.lift, Prog.bind_op, Prog.bind_ret, Prog.pure_eq_ret]
  iintro #HR HC  Hk
  iapply (wait_recv2 m ρ K c 19 false 768 rfl (oWin_credit _ _) (by decide) (by simp)) $$ HR HC; iintro HC Hg0768
  iapply (wait_recv2 m ρ K c 20 true 0 rfl (oWin_credit _ _) (by decide) (by simp)) $$ HR HC; iintro HC Hg10
  iapply (wait_recv2 m ρ K c 21 true 256 rfl (oWin_credit _ _) (by decide) (by simp)) $$ HR HC; iintro HC Hg1256
  iapply (wp_done c _ Q)
  iapply Hk $$ HC Hg0768 Hg10 Hg1256

end Cert.KernelIdeal.Reduce

end
-- ==== Proof.Body.lean ====
/-
# The body

The handshake on the barrier, and the whole body: the parts one after the other, with what each takes and leaves.
-/
module

public import proofs.«01_k».proof.Proof.Products
public import proofs.«01_k».proof.Proof.Totals

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Bool × Fin 24) → ℕ) (c : Dev nD)

/-! ## The handshake -/

/-- What the handshake takes: the position at the own barrier cell, the two tokens paid, the credit for the two units owed to it. -/
def barTok : sProp 𝕄 :=
  iprop(atPos ER (barCell c) 0 ∅ 0 ∗ dutyTok ER (barCell (peer false c)) 0 false ∗ dutyTok ER (barCell (peer true c)) 0 true ∗ cred (tallyAt (barCell c) () 2))

theorem part1 {Q : _ → sProp 𝕄} : iprop(∀ w1 w2 w3 w4 w5 w6 w7, Q ⟨c, w1, w2, w3, w4, w5, w6, w7⟩) ⊢ WP (F := F) c (onBuf (k0_part1_skel (F := F))) Q := by
  unfold k0_part1_skel; simp only [Prog.lift, Prog.bind_op, Prog.bind_ret, Prog.pure_eq_ret]
  unfold WP; rw [wp_deviceId]
  iintro Hk
  iapply (wp_done c _ Q)
  iapply Hk

theorem signal {α : Type} {k : PUnit → Prog (TpuEff nD τ sig (Elt F) Λ₀ .tc) α} {Q : α → sProp 𝕄} (h : Bool) {h' : Bool} (hh : h' = !h) {n : Dev nD} (hn : n = peer h c)
    {O' : CellTallies nD τ sig Unit} (O : CellTallies nD τ sig Unit) (hO : O' = O + tallyAt (barCell (peer h c)) () 1) {W : Waits sig Unit} :
    Rec m ρ K ⊢ iprop(owes (c : Thread nD τ) O' W -∗ dutyTok ER (barCell (peer h c)) 0 h -∗ s1Any c h -∗ s2Any c h'
      -∗ (owes (c : Thread nD τ) O W -∗ WP c (k ⟨⟩) Q)
      -∗ WP c (.op (.semSignal (Dev.tc n : Thread nD τ) barS (1#32 : BitVec 32).toInt) k) Q) := by
  subst hn hh
  iintro #HR HO Ht H1 H2 Hk
  ihave HI := (rec_inv m ρ K (peer h c, none)) $$ HR
  ihave Hr := (rec_reached m ρ K (peer h c, none)) $$ HR
  iapply (Rounds.wp_signal 𝒱₀ ER (sched m ρ) (c : Thread nD τ) none (dst := (peer h c : Thread nD τ)) (κ := K (peer h c, none))
      (d := h) (by rw [duties_bar]; exact Finset.mem_univ _) ((amount_bar m ρ (peer h c) h).trans (by decide)) () O hO)
    $$ [HI Hr HO Ht H1 H2]
  · isplitl [HI]; · iexact HI
    isplitl [HO]; · iexact HO
    isplitl [Ht]; · iexact Ht
    isplitr [Hr]
    · rw [payload_bar]; unfold barPay; rw [peer_peer h c]
      isplitl [H1]; · iexact H1
      iexact H2
    · iexact Hr
  iexact Hk

theorem part2 {Q : _ → sProp 𝕄} (w1 w2 w3 w4 w5 w6 w7 : BitVec 32) : Rec m ρ K ⊢ iprop((∃ W, owes (c : Thread nD τ) (O₀ c) W) -∗ barTok c
      -∗ s1Any c false -∗ s1Any c true -∗ s2Any c false -∗ s2Any c true
      -∗ (∀ v1 v2 v3 v4, (∃ W, owes (c : Thread nD τ) (owedL c sendOrder) W) -∗ semVal (barCell c) 0 -∗ barPay c false -∗ barPay c true -∗ Q ⟨v1, v2, v3, v4⟩)
      -∗ WP c (onBuf (k0_part2_skel (F := F)) c w1 w2 w3 w4 w5 w6 w7) Q) := by
  unfold k0_part2_skel; simp only [semSignalWord, semWaitWord, Prog.lift, Prog.bind_op, Prog.bind_ret, Prog.pure_eq_ret]
  unfold barTok
  iintro #HR HO ⟨HatB, HtA, HtB, HcB⟩ H1f H1t H2f H2t Hk
  icases HO with ⟨%W, HO⟩
  iapply (signal m ρ K c false (h' := true) rfl (dev1 c) (O' := O₀ c) (O₁ c) rfl) $$ HR HO HtA H1f H2t; iintro HO
  iapply (signal m ρ K c true (h' := false) rfl (dev2 c) (O' := O₁ c) (owedL c sendOrder) rfl) $$ HR HO HtB H1t H2f; iintro HO
  ihave HI := (rec_inv m ρ K (c, none)) $$ HR
  ihave Hl := (rec_lev m ρ K) $$ HR
  iapply (Rounds.wp_wait_rest_token 𝒱₀ ER (sched m ρ) (c : Thread nD τ) none (κ := K (c, none))
      (wpE_semWait_eq 𝒱₀ (c : Thread nD τ) none Set.univ) (Set.mem_univ _) () (O := owedL c sendOrder) (W := W) (R := 0) (m := 0) (T := ∅)
      (show 0 + (2#32 : BitVec 32).toNat = (sched (F := F) m ρ).expect (barCell c) 0 from by rw [expect_bar]; decide)) $$ [HI HcB HO Hl HatB]
  · isplitl [HI]; · iexact HI
    isplitl [HcB]; · iexact HcB
    isplitl [HO]; · iexact HO
    isplitl [Hl]; · iapply (mayWait_list c _ sendOrder (fun u hu => by rw [lv_bar]; omega)) $$ Hl
    iexact HatB
  iintro ⟨HO, HatB, -, Hpay⟩
  ihave Hp := (Entails.of_eq (rest_bar m ρ c)) $$ Hpay
  icases Hp with ⟨Hpf, Hpt⟩
  ihave HI := (rec_inv m ρ K (c, none)) $$ HR
  imod (Rounds.cell_close ER (sched m ρ) (Set.mem_univ (K (c, none))) (fun h => h) (R := 0 + 1) (duties_later m ρ (barCell c))) $$ [HI HatB] with Hz
  · isplitl [HI]; · iexact HI
    iexact HatB
  iapply (wp_done c _ Q)
  iapply Hk $$ [HO] Hz Hpf Hpt
  iexists _; iexact HO

/-! ## The whole body -/

omit [FloatOps F] in
theorem ctl_intro (ls lr : List (Fin 24)) : iprop(∃ W, owes (c : Thread nD τ) (owedL c ls) W)
    ⊢ (iprop(listSep (toStart c) ls -∗ listSep (toLand c) lr -∗ Ctl c ls lr [] []) : sProp 𝕄) := by
  unfold Ctl
  iintro HO Hls Hlr
  isplitl [HO]; · iexact HO
  isplitl [Hls]; · iexact Hls
  isplitl [Hlr]; · iexact Hlr
  isplitl <;> (unfold listSep; iempintro)

/-- The result array at the end: the complete sums, of the device itself in the batches it keeps and of its partner in those it gives. -/
def outC : Vec F S4x1024x512 .bf16 :=
  buf fun b => total m ρ (if b = kb (decide (2 ≤ b)) c then c else peer (decide (2 ≤ b)) c) (decide (2 ≤ b))

theorem nb_ne_kb : ∀ (h : Bool) (c : Dev nD), nb h c ≠ kb h c := by decide

theorem kept_out (h : Bool) (r n : ℕ) : oPts c (kb h c) r n (oTotal m ρ c) = (oPts c (kb h c) r n (outC m ρ c) : sProp 𝕄) :=
  oPts_congr c fun i hi => by
    have e : (i 0).val = kb h c := (mem_rows.mp hi).1
    unfold oTotal outC buf
    rw [e]; dsimp only; rw [ half_kb h c, if_pos rfl]
theorem given_out (h : Bool) (r n : ℕ) : oPts c (nb h c) r n (oTotal m ρ (peer h c)) = (oPts c (nb h c) r n (outC m ρ c) : sProp 𝕄) :=
  oPts_congr c fun i hi => by
    have e : (i 0).val = nb h c := (mem_rows.mp hi).1
    unfold oTotal outC buf
    rw [e]; dsimp only; rw [ half_nb h c, if_neg (nb_ne_kb h c)]

set_option maxHeartbeats 4000000 in
set_option maxRecDepth 65536 in
/-- The parts after the handshake, one after the other. -/
theorem sound_parts {f : Vec F S4x1024x512 .bf16} {a : Vec F S2x1024x512 .f32} {Q : PUnit → sProp 𝕄} : Rec m ρ K ⊢ iprop((∃ W, owes (c : Thread nD τ) (O₀ c) W) -∗ barTok c
      -∗ s1Any c false -∗ s1Any c true -∗ s2Any c false -∗ s2Any c true
      -∗ listSep (toStart c) sendOrder -∗ listSep (toLand c) waitOrder
      -∗ xPts m ρ c -∗ kPts m ρ c -∗ wPts m ρ c
      -∗ oPts c (kb false c) 0 1024 f -∗ oPts c (nb false c) 0 1024 f -∗ oPts c (kb true c) 0 1024 f -∗ oPts c (nb true c) 0 1024 f
      -∗ aPts c (slot false) 0 1024 a -∗ aPts c (slot true) 0 1024 a
      -∗ (semVal (barCell c) 0 -∗ Ctl c [] [] [23, 22, 21, 20, 19, 18, 17, 16, 15, 11, 14, 10, 13, 9, 12, 8, 7, 3, 6, 2, 5, 1, 4, 0] [23, 22, 21, 20, 19, 18, 17, 16, 15, 11, 14, 10, 13, 9, 12, 8, 7, 3, 6, 2, 5, 1, 4, 0] -∗ xPts m ρ c -∗ kPts m ρ c -∗ wPts m ρ c
        -∗ oPts c (kb false c) 0 1024 (outC m ρ c) -∗ oPts c (nb false c) 0 1024 (outC m ρ c) -∗ oPts c (kb true c) 0 1024 (outC m ρ c) -∗ oPts c (nb true c) 0 1024 (outC m ρ c)
        -∗ accP m ρ c false -∗ accP m ρ c true
        -∗ s1Pts c (slot false) 0 1024 (st1C m ρ c) -∗ s1Pts c (slot true) 0 1024 (st1C m ρ c)
        -∗ s2Pts c (slot false) 0 1024 (st2C m ρ c) -∗ s2Pts c (slot true) 0 1024 (st2C m ρ c)
        -∗ Q ⟨⟩)
      -∗ WP c (onBuf (cc0_body (F := F))) Q) := by
  rw [cc0_body_eq_skeleton]; unfold cc0_body_skel
  simp only [wp_bind]
  iintro #HR HO HB H1f H1t H2f H2t Hls Hlr HX HK HW Hokf Honf Hokt Hont Haf Hat Hk
  rw [k0_part1_eq_skeleton]
  iapply (part1 (F := F) c); iintro %w1 %w2 %w3 %w4 %w5 %w6 %w7
  rw [k0_part2_eq_skeleton]
  iapply (part2 m ρ K c _ _ _ _ _ _ _) $$ HR HO HB H1f H1t H2f H2t
  iintro %v1 %v2 %v3 %v4 HO HzB Hpf Hpt
  ihave HC := (ctl_intro c sendOrder waitOrder) $$ HO Hls Hlr
  unfold barPay s1Any s2Any
  icases Hpf with ⟨⟨%g1, Hd1f⟩, ⟨%g2, Hd2t⟩⟩
  icases Hpt with ⟨⟨%g3, Hd1t⟩, ⟨%g4, Hd2f⟩⟩
  ihave Hd2f := (Entails.of_eq (show s2Pts (peer true c) (slot !true) 0 1024 g4 = s2Pts (peer (!false) c) (slot false) 0 1024 g4 from rfl)) $$ Hd2f
  ihave Hd2t := (Entails.of_eq (show s2Pts (peer false c) (slot !false) 0 1024 g2 = s2Pts (peer (!true) c) (slot true) 0 1024 g2 from rfl)) $$ Hd2t
  ihave Hokf := (Entails.of_eq (oPts_chunks c (kb false c) f)) $$ Hokf
  icases Hokf with ⟨⟨Hokf0, Hokf256⟩, Hokf512, Hokf768⟩
  ihave Hokt := (Entails.of_eq (oPts_chunks c (kb true c) f)) $$ Hokt
  icases Hokt with ⟨⟨Hokt0, Hokt256⟩, Hokt512, Hokt768⟩
  ihave Hd1f := (Entails.of_eq (s1Pts_chunks _ _ _)) $$ Hd1f
  icases Hd1f with ⟨⟨Hd1f0, Hd1f256⟩, Hd1f512, Hd1f768⟩
  ihave Hd1t := (Entails.of_eq (s1Pts_chunks _ _ _)) $$ Hd1t
  icases Hd1t with ⟨⟨Hd1t0, Hd1t256⟩, Hd1t512, Hd1t768⟩
  ihave Hd2f := (Entails.of_eq (s2Pts_chunks (peer (!false) c) (slot false) g4)) $$ Hd2f
  icases Hd2f with ⟨⟨Hd2f0, Hd2f256⟩, Hd2f512, Hd2f768⟩
  ihave Hd2t := (Entails.of_eq (s2Pts_chunks (peer (!true) c) (slot true) g2)) $$ Hd2t
  icases Hd2t with ⟨⟨Hd2t0, Hd2t256⟩, Hd2t512, Hd2t768⟩
  ihave Honf := (Entails.of_eq (oPts_halves _ _ _)) $$ Honf
  icases Honf with ⟨Honf0, Honf512⟩
  ihave Hont := (Entails.of_eq (oPts_halves _ _ _)) $$ Hont
  icases Hont with ⟨Hont0, Hont512⟩
  rw [k0_part3_eq_skeleton]
  iapply (part3 m ρ c) $$ HX HK HW
  iintro HX HK HW
  rw [k0_part4_eq_skeleton]
  iapply (part4 m ρ K c _ _ _) $$ HR HC HX HK Honf0 Hd1f0 Hd1f256
  iintro HC HX HK Hs0 Hs1
  rw [k0_part5_eq_skeleton]
  iapply (part5 m ρ c _) $$ HK HW
  iintro HK HW
  rw [k0_part6_eq_skeleton]
  iapply (part6 m ρ K c _ _) $$ HR HC HW Hont0 Honf512 Hd1t0 Hd1t256
  iintro HC HW Hs4 Hs5 Honf512 Honf768
  rw [k0_part7_eq_skeleton]
  iapply (part7 m ρ K c _ _ _) $$ HR HC HW Honf512 Honf768 Hont512 Hd1f512 Hd1f768
  iintro %w HC HW Hs2 Hs3 Hont512 Hont768
  rw [k0_part8_eq_skeleton]
  iapply (part8 m ρ K c _ _ _) $$ HR HC HX HK Hont512 Hont768 Hd1t512 Hd1t768
  iintro HC HX HK Hs6 Hs7
  rw [k0_part9_eq_skeleton]
  iapply (part9 m ρ c _) $$ HX HK HW Haf
  iintro HX HK HW Haf
  rw [k0_part10_eq_skeleton]
  iapply (part10 m ρ c) $$ HK HW Hat
  iintro HK HW Hat
  rw [k0_part11_eq_skeleton]
  iapply (part11 m ρ K c _ _ _ (by decide)) $$ HR HC Hs0 Haf Hokf0
  iintro HC Hl1f0 Hd3f0 Haf Hokf0
  rw [k0_part12_eq_skeleton]
  iapply (part12 m ρ K c _ _ (by decide)) $$ HR HC Hokf0 Hd2f0 Hs4 Hat
  iintro HC Hs8 Hl1t0 Hd3t0 Hat
  rw [k0_part13_eq_skeleton]
  iapply (part13 m ρ K c _ (by decide)) $$ HR HC Hokt0 Hd2t0 Hs1
  iintro HC Hs12 Hl1f256 Hd3f256
  rw [k0_part14_eq_skeleton]
  iapply (part14 m ρ K c _ _) $$ HR HC Haf Hl1f256 Hokf256 Hd2f256 Hs5
  iintro HC Haf Hl1f256 Hs9
  rw [k0_part15_eq_skeleton]
  iapply (part15 m ρ K c _ _ (by decide)) $$ HR HC Hat Hokt256 Hd2t256
  iintro HC Hl1t256 Hd3t256 Hat Hs13
  rw [k0_part16_eq_skeleton]
  iapply (part16 m ρ K c _ _ _ (by decide)) $$ HR HC Hs2 Haf Hokf512
  iintro HC Hl1f512 Hd3f512 Haf Hokf512
  rw [k0_part17_eq_skeleton]
  iapply (part17 m ρ K c _ _ (by decide)) $$ HR HC Hokf512 Hd2f512 Hs6 Hat Hokt512
  iintro HC Hs10 Hl1t512 Hd3t512 Hat Hokt512
  rw [k0_part18_eq_skeleton]
  iapply (part18 m ρ K c _ (by decide)) $$ HR HC Hokt512 Hd2t512 Hs3 Haf
  iintro HC Hs14 Hl1f768 Hd3f768 Haf
  rw [k0_part19_eq_skeleton]
  iapply (part19 m ρ K c _ _) $$ HR HC Hokf768 Hd2f768 Hs7
  iintro HC Hs11
  rw [k0_part20_eq_skeleton]
  iapply (part20 m ρ K c _ _ (by decide)) $$ HR HC Hat Hokt768 Hd2t768 Hs8
  iintro HC Hl1t768 Hd3t768 Hat Hs15 Hokf0
  rw [k0_part21_eq_skeleton]
  iapply (part21 m ρ K c _ _ _ (by decide)) $$ HR HC Haf Hl1f0 Hokf0
  iintro HC Hl2f0 Haf Hl1f0 Hokf0
  rw [k0_part22_eq_skeleton]
  iapply (part22 m ρ K c _ _ (by decide)) $$ HR HC Hokf0 Hd3f0 Hs12 Hat Hl1t0
  iintro HC Hs16 Hokt0 Hl2t0 Hat Hl1t0
  rw [k0_part23_eq_skeleton]
  iapply (part23 m ρ K c _ (by decide)) $$ HR HC Hokt0 Hd3t0 Hs9 Haf
  iintro HC Hs20 Hokf256 Hl2f256 Haf
  rw [k0_part24_eq_skeleton]
  iapply (part24 m ρ K c _ _) $$ HR HC Hl1f256 Hl2f256 Hokf256 Hd3f256 Hs13
  iintro %w HC Hl1f256 Hl2f256 Hs17 Hokt256
  rw [k0_part25_eq_skeleton]
  iapply (part25 m ρ K c _ _ _ (by decide)) $$ HR HC Hat Hl1t256 Hokt256 Hd3t256
  iintro HC Hl2t256 Hat Hl1t256 Hs21
  rw [k0_part26_eq_skeleton]
  iapply (part26 m ρ K c _ _ (by decide)) $$ HR HC Hs10 Haf Hl1f512
  iintro HC Hokf512 Hl2f512 Haf Hl1f512
  rw [k0_part27_eq_skeleton]
  iapply (part27 m ρ K c _ (by decide)) $$ HR HC Hokf512 Hd3f512 Hs14 Hat Hl1t512
  iintro HC Hs18 Hokt512 Hl2t512 Hat Hl1t512
  rw [k0_part28_eq_skeleton]
  iapply (part28 m ρ K c _ _) $$ HR HC Hl2t512 Hokt512 Hd3t512 Hs11
  iintro HC Hl2t512 Hs22 Hokf768
  rw [k0_part29_eq_skeleton]
  iapply (part29 m ρ K c _ _ (by decide)) $$ HR HC Haf Hl1f768 Hokf768 Hd3f768
  iintro HC Hl2f768 Haf Hl1f768 Hs19
  rw [k0_part30_eq_skeleton]
  iapply (part30 m ρ K c _ _ _ (by decide)) $$ HR HC Hs15 Hat Hl1t768
  iintro %w HC Hokt768 Hl2t768 Hat Hl1t768
  rw [k0_part31_eq_skeleton]
  iapply (part31 m ρ K c _) $$ HR HC Hokt768 Hd3t768 Hs16 Hs17 Hs18
  iintro HC Hs23 Hokf0 Hokf256 Hokf512
  rw [k0_part32_eq_skeleton]
  iapply (part32 m ρ K c) $$ HR HC Hs19 Hs20 Hs21 Hs22
  iintro HC Hokf768 Hokt0 Hokt256 Hokt512
  rw [k0_part33_eq_skeleton]
  iapply (part33 m ρ K c _) $$ HR HC Hs23
  iintro HC Hokt768 Honf0 Honf256 Honf512
  rw [k0_part34_eq_skeleton]
  iapply (part34 m ρ K c _ _) $$ HR HC
  iintro HC Honf768 Hont0 Hont256
  iapply (wait_recv2 m ρ K c 22 true 512 rfl (oWin_credit _ _) (by decide) (by simp)) $$ HR HC; iintro HC Hont512
  iapply (wp_done c _ _)
  iapply (wait_recv2 m ρ K c 23 true 768 rfl (oWin_credit _ _) (by decide) (by simp)) $$ HR HC; iintro HC Hont768
  iapply (wp_done c _ _)
  simp only [Prog.pure_eq_ret]
  iapply (wp_done c _ Q)
  ihave Hl1f := (Entails.of_eq (s1Pts_chunks _ _ _).symm) $$ [Hl1f0 Hl1f256 Hl1f512 Hl1f768]
  · isplitl [Hl1f0 Hl1f256]; · isplitl [Hl1f0] <;> iassumption
    isplitl [Hl1f512] <;> iassumption
  ihave Hl1t := (Entails.of_eq (s1Pts_chunks _ _ _).symm) $$ [Hl1t0 Hl1t256 Hl1t512 Hl1t768]
  · isplitl [Hl1t0 Hl1t256]; · isplitl [Hl1t0] <;> iassumption
    isplitl [Hl1t512] <;> iassumption
  ihave Hl2f := (Entails.of_eq (s2Pts_chunks _ _ _).symm) $$ [Hl2f0 Hl2f256 Hl2f512 Hl2f768]
  · isplitl [Hl2f0 Hl2f256]; · isplitl [Hl2f0] <;> iassumption
    isplitl [Hl2f512] <;> iassumption
  ihave Hl2t := (Entails.of_eq (s2Pts_chunks _ _ _).symm) $$ [Hl2t0 Hl2t256 Hl2t512 Hl2t768]
  · isplitl [Hl2t0 Hl2t256]; · isplitl [Hl2t0] <;> iassumption
    isplitl [Hl2t512] <;> iassumption
  ihave Hokf := (Entails.of_eq ((oPts_chunks _ _ _).symm.trans (kept_out m ρ c false 0 1024))) $$ [Hokf0 Hokf256 Hokf512 Hokf768]
  · isplitl [Hokf0 Hokf256]; · isplitl [Hokf0] <;> iassumption
    isplitl [Hokf512] <;> iassumption
  ihave Honf := (Entails.of_eq ((oPts_chunks _ _ _).symm.trans (given_out m ρ c false 0 1024))) $$ [Honf0 Honf256 Honf512 Honf768]
  · isplitl [Honf0 Honf256]; · isplitl [Honf0] <;> iassumption
    isplitl [Honf512] <;> iassumption
  ihave Hokt := (Entails.of_eq ((oPts_chunks _ _ _).symm.trans (kept_out m ρ c true 0 1024))) $$ [Hokt0 Hokt256 Hokt512 Hokt768]
  · isplitl [Hokt0 Hokt256]; · isplitl [Hokt0] <;> iassumption
    isplitl [Hokt512] <;> iassumption
  ihave Hont := (Entails.of_eq ((oPts_chunks _ _ _).symm.trans (given_out m ρ c true 0 1024))) $$ [Hont0 Hont256 Hont512 Hont768]
  · isplitl [Hont0 Hont256]; · isplitl [Hont0] <;> iassumption
    isplitl [Hont512] <;> iassumption
  iapply Hk $$ HzB HC HX HK HW Hokf Honf Hokt Hont Haf Hat Hl1f Hl1t Hl2f Hl2t

end Cert.KernelIdeal.Reduce

end
-- ==== Proof.Launch.lean ====
/-
# The launch

The cells of all devices set up at once, the tokens and credits dealt to the devices that pay and take them, and the run of the
whole program on the four devices: it ends, with every device's result array at `outC`, its inputs unchanged and every counter zero.
-/
module

public import proofs.«01_k».proof.Proof.Body

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Separating conjunctions over the cells of a device -/

theorem sep_option {M : Type} [URA M] {α : Type} [Fintype α] [DecidableEq α] (Φ : Option α → sProp M) :
    bigSep Finset.univ Φ = iprop(Φ none ∗ bigSep Finset.univ fun a => Φ (some a)) := by
  rw [show (Finset.univ : Finset (Option α)) = insert none (Finset.univ.map Function.Embedding.some) from by ext x; cases x <;> simp,
    bigSep_insert (by simp), bigSep_map]
  rfl
theorem sep_bool {M : Type} [URA M] (Φ : Bool → sProp M) : bigSep Finset.univ Φ = iprop(Φ false ∗ Φ true) :=
  bigSep_univ_eq_bigSepL [false, true] (by decide) (by decide) Φ
theorem sep_pairs {M : Type} [URA M] (Φ : Bool × Fin 24 → sProp M) :
    bigSep Finset.univ Φ = iprop((bigSep Finset.univ fun t => Φ (false, t)) ∗ bigSep Finset.univ fun t => Φ (true, t)) := by
  rw [bigSep_univ_prod, sep_bool]
omit [FloatOps F] in
/-- All copies, in the order of a list that names each once. -/
theorem sep_list (l : List (Fin 24)) (h : Finset.univ = l.toFinset) (hl : l.Nodup) (Φ : Fin 24 → sProp 𝕄) : bigSep Finset.univ Φ = listSep Φ l := by
  rw [listSep_eq]; exact bigSep_univ_eq_bigSepL l h hl Φ

/-- The orders in which a device has waited for its copies and for the landings, the last first. -/
abbrev doneOrder : List (Fin 24) := [23, 22, 21, 20, 19, 18, 17, 16, 15, 11, 14, 10, 13, 9, 12, 8, 7, 3, 6, 2, 5, 1, 4, 0]

/-! ## What a device starts from and ends with -/

/-- What a device starts from: what all know, and its tokens, positions and credits. -/
def start (c : Dev nD) : sProp 𝕄 :=
  iprop(∃ K, Rec m ρ K ∗ barTok c ∗ listSep (toStart c) sendOrder ∗ listSep (toLand c) waitOrder)

omit [FloatOps F] in
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m ρ c ∗ scratch c)
omit [FloatOps F] in
def Φ₁ (c : Dev nD) : sProp 𝕄 :=
  iprop(semVal (barCell c) 0 ∗ listSep (fun t => semVal (sendCell c t) 0) doneOrder ∗ listSep (fun t => semVal (recvCell c t) 0) doneOrder ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => kstg m ρ c
    | ⟨2, _⟩ => wstg m ρ c
    | ⟨3, _⟩ => outC m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The buffers, whole and in slots and batches -/

theorem batch_cases : ∀ (c : Dev nD) (b : Fin 4), (b.val = kb false c ∨ b.val = nb false c) ∨ b.val = kb true c ∨ b.val = nb true c := by decide
theorem batch_low : ∀ (h : Bool) (c : Dev nD), (2 ≤ kb h c ↔ h = true) ∧ (2 ≤ nb h c ↔ h = true) := by decide

theorem slots_cover (i : Shape.Idx S2x1024x512) :
    i ∈ (Finset.univ : Finset (Shape.Idx S2x1024x512)) ↔ i ∈ rows (slot false) 0 1024 ∨ i ∈ rows (slot true) 0 1024 := by
  have h0 : (i 0).val < 2 := (i 0).isLt
  have h1 : (i 1).val < 1024 := (i 1).isLt
  simp only [slot, mem_rows, Finset.mem_univ, true_iff, if_true, Bool.false_eq_true, if_false]; omega
theorem batches_cover (c : Dev nD) (i : Shape.Idx S4x1024x512) : i ∈ (Finset.univ : Finset (Shape.Idx S4x1024x512))
    ↔ i ∈ (rows (kb false c) 0 1024 ∪ rows (nb false c) 0 1024 : Finset (Shape.Idx S4x1024x512))
      ∨ i ∈ (rows (kb true c) 0 1024 ∪ rows (nb true c) 0 1024 : Finset (Shape.Idx S4x1024x512)) := by
  have h0 := batch_cases c (i 0)
  have h1 : (i 1).val < 1024 := (i 1).isLt
  simp only [Finset.mem_union, mem_rows, Finset.mem_univ, true_iff]; omega
theorem batches_disjoint (c : Dev nD) : Disjoint (rows (kb false c) 0 1024 ∪ rows (nb false c) 0 1024 : Finset (Shape.Idx S4x1024x512))
    (rows (kb true c) 0 1024 ∪ rows (nb true c) 0 1024) := by
  have h1 := batch_low false c
  have h2 := batch_low true c
  simp only [Bool.false_eq_true, iff_false, iff_true] at h1 h2
  rw [Finset.disjoint_left]; intro i hi hj
  simp only [Finset.mem_union, mem_rows] at hi hj; omega

omit [FloatOps F] in
theorem aPts_slots (c : Dev nD) (f : Vec F S2x1024x512 .f32) :
    (((c : Thread nD τ).loc cc0_scratch0) ↦{fullShare} f : sProp 𝕄) = iprop(aPts c (slot false) 0 1024 f ∗ aPts c (slot true) 0 1024 f) :=
  pts_union (ℓ := (c : Thread nD τ).loc cc0_scratch0) slots_cover (rows_disjoint' (by decide) _ _ _ _)
omit [FloatOps F] in
theorem s1Pts_slots (c : Dev nD) (f : Vec F S2x1024x512 .bf16) :
    (((c : Thread nD τ).loc cc0_scratch1) ↦{fullShare} f : sProp 𝕄) = iprop(s1Pts c (slot false) 0 1024 f ∗ s1Pts c (slot true) 0 1024 f) :=
  pts_union (ℓ := (c : Thread nD τ).loc cc0_scratch1) slots_cover (rows_disjoint' (by decide) _ _ _ _)
omit [FloatOps F] in
theorem s2Pts_slots (c : Dev nD) (f : Vec F S2x1024x512 .bf16) :
    (((c : Thread nD τ).loc cc0_scratch2) ↦{fullShare} f : sProp 𝕄) = iprop(s2Pts c (slot false) 0 1024 f ∗ s2Pts c (slot true) 0 1024 f) :=
  pts_union (ℓ := (c : Thread nD τ).loc cc0_scratch2) slots_cover (rows_disjoint' (by decide) _ _ _ _)

omit [FloatOps F] in
theorem oPts_batches (c : Dev nD) (f : Vec F S4x1024x512 .bf16) :
    (((c : Thread nD τ).loc cc0_stg3_0) ↦{fullShare} f : sProp 𝕄)
      = iprop((oPts c (kb false c) 0 1024 f ∗ oPts c (nb false c) 0 1024 f) ∗ oPts c (kb true c) 0 1024 f ∗ oPts c (nb true c) 0 1024 f) := by
  refine (pts_union (ℓ := (c : Thread nD τ).loc cc0_stg3_0) (batches_cover c) (batches_disjoint c)).trans ?_
  congr 1
  · exact pts_union (ℓ := (c : Thread nD τ).loc cc0_stg3_0) (fun i => Finset.mem_union) (rows_disjoint' (nb_ne_kb false c).symm _ _ _ _)
  · exact pts_union (ℓ := (c : Thread nD τ).loc cc0_stg3_0) (fun i => Finset.mem_union) (rows_disjoint' (nb_ne_kb true c).symm _ _ _ _)

/-! ## The body, as the launch calls it -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp 𝕄 :=
  iprop(Φ₁ c ∗ (dats m ρ 0 c).owesAt () t0_0.succ
    ∗ stg c cc0_stg0_0 (xstg m ρ c) ∗ stg c cc0_stg1_0 (kstg m ρ c) ∗ stg c cc0_stg2_0 (wstg m ρ c) ∗ stg c cc0_stg3_0 (outC m ρ c))

set_option maxHeartbeats 800000 in
theorem sound_body (c : Dev nD) : bodyPre m ρ c ⊢ WP c (onBuf (cc0_body (F := F))) (fun _ => bodyPost m ρ c) := by
  unfold bodyPre Φ₀ start scratch
  iintro ⟨⟨⟨%K, HR, HB, Hls, Hlr⟩, ⟨%a, Ha⟩, ⟨%g1, H1⟩, ⟨%g2, H2⟩⟩, Ho, ⟨%d0, %f0, %h0, HX⟩, ⟨%d1, %f1, %h1, HK⟩, ⟨%d2, %f2, %h2, HW⟩, ⟨%d3, %f3, %h3, Hout⟩⟩
  have e0 : f0 = xstg m ρ c := by rw [h0]; unfold Dat.before; rw [if_pos (fetch0_0 t0_0)]; rfl
  have e1 : f1 = kstg m ρ c := by rw [h1]; unfold Dat.before; rw [if_pos (fetch0_1 t0_0)]; rfl
  have e2 : f2 = wstg m ρ c := by rw [h2]; unfold Dat.before; rw [if_pos (fetch0_2 t0_0)]; rfl
  clear h0 h1 h2 h3
  subst e0 e1 e2
  unfold Dat.owesAt Pipeline.owesWithin
  icases Ho with ⟨%W, %hW, HO⟩
  rw [show (dats m ρ 0 c).owed t0_0.castSucc = O₀ c from rfl]
  ihave Ha := (Entails.of_eq (aPts_slots c a)) $$ Ha
  icases Ha with ⟨Haf, Hat⟩
  ihave H1 := (Entails.of_eq (s1Pts_slots c g1)) $$ H1
  icases H1 with ⟨H1f, H1t⟩
  ihave H2 := (Entails.of_eq (s2Pts_slots c g2)) $$ H2
  icases H2 with ⟨H2f, H2t⟩
  ihave Hout := (Entails.of_eq (oPts_batches c f3)) $$ Hout
  icases Hout with ⟨⟨Hokf, Honf⟩, Hokt, Hont⟩
  iapply (sound_parts m ρ K c) $$ HR [HO] HB [H1f] [H1t] [H2f] [H2t] Hls Hlr HX HK HW Hokf Honf Hokt Hont Haf Hat
  · iexists _; iexact HO
  · unfold s1Any; iexists g1; iexact H1f
  · unfold s1Any; iexists g1; iexact H1t
  · unfold s2Any; iexists g2; iexact H2f
  · unfold s2Any; iexists g2; iexact H2t
  iintro HzB HC HX HK HW Hokf Honf Hokt Hont Haf Hat H1f H1t H2f H2t
  unfold Ctl
  icases HC with ⟨⟨%W', HO⟩, -, -, Hzs, Hzr⟩
  unfold bodyPost Φ₁ scratch Dat.owesAt Pipeline.owesWithin
  rw [show (dats m ρ 0 c).owed t0_0.succ = 0 from rfl]
  isplitl [HzB Hzs Hzr Haf Hat H1f H1t H2f H2t]
  · isplitl [HzB]; · iexact HzB
    isplitl [Hzs]; · iexact Hzs
    isplitl [Hzr]; · iexact Hzr
    isplitl [Haf Hat]
    · iexists (accC m ρ c); iapply (Entails.of_eq (aPts_slots c (accC m ρ c)).symm)
      isplitl [Haf] <;> iassumption
    isplitl [H1f H1t]
    · iexists (st1C m ρ c); iapply (Entails.of_eq (s1Pts_slots c (st1C m ρ c)).symm)
      isplitl [H1f] <;> iassumption
    · iexists (st2C m ρ c); iapply (Entails.of_eq (s2Pts_slots c (st2C m ρ c)).symm)
      isplitl [H2f] <;> iassumption
  isplitl [HO]
  · iexists W'
    isplitr; · ipureintro; exact fun _ _ => Or.inl trivial
    iexact HO
  isplitl [HX]
  · iexists _; isplitr; · (ipureintro; rfl)
    iexact HX
  isplitl [HK]
  · iexists _; isplitr; · (ipureintro; rfl)
    iexact HK
  isplitl [HW]
  · iexists _; isplitr; · (ipureintro; rfl)
    iexact HW
  iexists (outC m ρ c); isplitr; · (ipureintro; rfl)
  iapply (Entails.of_eq (oPts_batches c (outC m ρ c)).symm)
  isplitl [Hokf Honf]
  · isplitl [Hokf] <;> iassumption
  isplitl [Hokt] <;> iassumption

set_option maxRecDepth 8000 in
/-- The body's obligation at the one point of the grid. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdeal.Reduce

end
-- ==== Proof.Run.lean ====
/-
# The run of the whole program

The cells of all devices are set up at once, and the tokens and credits dealt to the devices that pay and take them. The four
devices then run to the end: each result array is left at `outC`, the inputs unchanged, and every counter is zero.
-/
module

public import proofs.«01_k».proof.Proof.Launch
public import Idealize.ShloMosaic.Lib.Pipeline.CollectiveSegs

@[expose] public section

noncomputable section

namespace Cert.KernelIdeal.Reduce

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem osem_inj : ∀ {k k' : Bool × Fin 24}, osem k = osem k' → k = k'
  | (false, t), (false, u), h => congrArg (Prod.mk false) (sS_inj h)
  | (true, t), (true, u), h => congrArg (Prod.mk true) (rS_inj h)
  | (false, t), (true, u), h => absurd h (sS_ne_rS t u)
  | (true, t), (false, u), h => absurd h.symm (sS_ne_rS u t)
theorem csem_inj : ∀ {k k' : Option (Bool × Fin 24)}, csem k = csem k' → k = k'
  | none, none, _ => rfl
  | some k, some k', h => congrArg some (osem_inj h)
  | none, some k, h => absurd h.symm (dma_ne_bar _)
  | some k, none, h => absurd h (dma_ne_bar _)

theorem kcell_injective : Function.Injective (kcell : Dev nD × Option (Bool × Fin 24) → GSem nD τ sig) := by
  rintro ⟨c, k⟩ ⟨c', k'⟩ h
  have h1 : c = c' := congrArg (fun g : GSem nD τ sig => g.1.1) h
  have h2 : k = k' := csem_inj (congrArg Prod.snd h)
  subst h1 h2; rfl
def allCells : Finset (GSem nD τ sig) := Finset.univ.map ⟨kcell, kcell_injective⟩

theorem ownSemFacts : Pipeline.OwnSemFacts cfg0.spec osem where
  isScoped := by decide
  inj := fun _ _ => osem_inj
  disj := by
    rintro ⟨d, t⟩ w s h
    have hv : (if d then rS t else sS t) = (cfg0.spec w).sem s := SemLoc.dma.inj h
    have hw : ∀ w s, ((cfg0.spec w).sem s).val < 4 := by decide
    have := hw w s
    rw [← hv] at this
    cases d <;> simp at this <;> omega

/-- The duties of a device's own cells: two at its barrier cell, one at every other. -/
abbrev tokOf (x : Dev nD × (Bool ⊕ Bool × Fin 24)) : GSem nD τ sig × ℕ × Bool := match x.2 with
  | .inl d => (barCell x.1, 0, d)
  | .inr k => (kcell (x.1, some k), 0, false)
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  have h2 : j = j' := by
    have hs := congrArg (fun x : GSem nD τ sig × ℕ × Bool => x.1.2) h
    have hd := congrArg (fun x : GSem nD τ sig × ℕ × Bool => x.2.2) h
    cases j with
    | inl d => cases j' with
      | inl d' => exact congrArg Sum.inl hd
      | inr k' => exact absurd hs.symm (dma_ne_bar _)
    | inr k => cases j' with
      | inl d' => exact absurd hs (dma_ne_bar _)
      | inr k' => exact congrArg Sum.inr (osem_inj hs)
  subst h1 h2; rfl
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of the duties at a device's own cells, -/
def ownToks (c : Dev nD) : sProp 𝕄 :=
  iprop((dutyTok ER (barCell c) 0 false ∗ dutyTok ER (barCell c) 0 true)
    ∗ (bigSep Finset.univ fun t : Fin 24 => dutyTok ER (sendCell c t) 0 false) ∗ bigSep Finset.univ fun t : Fin 24 => dutyTok ER (recvCell c t) 0 false)
/-- and of the duties the device pays. -/
def payToks (c : Dev nD) : sProp 𝕄 :=
  iprop((dutyTok ER (barCell (peer false c)) 0 false ∗ dutyTok ER (barCell (peer true c)) 0 true)
    ∗ (bigSep Finset.univ fun t : Fin 24 => dutyTok ER (sendCell c t) 0 false) ∗ bigSep Finset.univ fun t : Fin 24 => dutyTok ER (recvCell (other t c) t) 0 false)

def G (c : Dev nD) : sProp 𝕄 :=
  iprop((bigSep Finset.univ fun k => roundState ER (sched m ρ) (kcell (c, k)) 0)
    ∗ (bigSep Finset.univ fun k => iprop(atPos ER (kcell (c, k)) 0 ∅ 0 ∗ reached ER (kcell (c, k)) 0)) ∗ ownToks c)

def records (K : Dev nD × Option (Bool × Fin 24) → ℕ) : sProp 𝕄 :=
  iprop((bigSep Finset.univ fun ck => cellInv ER (sched m ρ) (K ck) (kcell ck)) ∗ bigSep Finset.univ fun ck => reached ER (kcell ck) 0)
omit [FloatOps F] in
instance records_persistent (K : Dev nD × Option (Bool × Fin 24) → ℕ) : BI.Persistent (records (F := F) m ρ K) := by unfold records; infer_instance

def linear (c : Dev nD) : sProp 𝕄 := iprop((bigSep Finset.univ fun k => atPos ER (kcell (c, k)) 0 ∅ 0) ∗ payToks c)
def G' (c : Dev nD) : sProp 𝕄 := iprop(∃ K, records m ρ K ∗ linear c)

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, sep_bool, sep_pairs]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The scoped semaphores are those of the copies, -/
theorem ownSems0_eq (c : Dev nD) : (Pipeline.ownSems0 (Ix := Unit) (Name := ℕ) (U := UU) (Lvl := ℕ) (Val := Elt F) (τ := τ) osem c : sProp 𝕄)
    = iprop((bigSep Finset.univ fun t : Fin 24 => semVal (sendCell c t) 0) ∗ bigSep Finset.univ fun t : Fin 24 => semVal (recvCell c t) 0) := by
  unfold Pipeline.ownSems0; rw [sep_pairs]; rfl
omit [FloatOps F] in
/-- the barrier's the one that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, sep_option, sep_pairs]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The tokens change hands: a barrier's two go to the two partners, and a landing's to the device the copy comes from. -/
theorem toks_around : (bigSep Finset.univ fun c : Dev nD => (ownToks c : sProp 𝕄)) = bigSep Finset.univ fun c : Dev nD => payToks c := by
  unfold ownToks payToks
  simp only [bigSep_sep']
  rw [bigSep_univ_equiv (peerEquiv false) (fun c : Dev nD => (dutyTok ER (barCell c) 0 false : sProp 𝕄)),
    bigSep_univ_equiv (peerEquiv true) (fun c : Dev nD => (dutyTok ER (barCell c) 0 true : sProp 𝕄)),
    Pipeline.bigSep_univ_comm (fun (c : Dev nD) (t : Fin 24) => (dutyTok ER (recvCell c t) 0 false : sProp 𝕄)),
    bigSep_congr (s := Finset.univ) (fun (t : Fin 24) _ => bigSep_univ_equiv (otherEquiv t) (fun c : Dev nD => (dutyTok ER (recvCell c t) 0 false : sProp 𝕄))),
    Pipeline.bigSep_univ_comm (fun (t : Fin 24) (c : Dev nD) => (dutyTok ER (recvCell (otherEquiv t c) t) 0 false : sProp 𝕄))]
  rfl

omit [FloatOps F] in
theorem sep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Option (Bool × Fin 24) => iprop(∃ κ : ℕ, cellInv ER (sched m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Fin 24) => (reached ER (kcell ck) 0 : sProp 𝕄)), toks_around]
  iintro ⟨HI, ⟨Hat, #HR⟩, Htok⟩
  ihave HK := (BI.bigSep_exists_pi Finset.univ (fun (ck : Dev nD × Option (Bool × Fin 24)) (κ : ℕ) => (cellInv ER (sched m ρ) κ (kcell ck) : sProp 𝕄))) $$ HI
  icases HK with ⟨%K, #HI⟩
  iapply (sep_with (R := records m ρ K) (Φ := linear) fun c _ => by unfold G'; iintro H; iexists K; iexact H)
  isplitr
  · unfold records; isplitl; · iexact HI
    iexact HR
  · unfold linear; rw [bigSep_sep']
    isplitl [Hat]; · iexact Hat
    iexact Htok

/-- The step for all devices together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits at launch -/

theorem bar_eq_iff {a b : Dev nD} : barCell a = barCell b ↔ a = b := ⟨fun h => congrArg (fun g : GSem nD τ sig => g.1.1) h, fun h => h ▸ rfl⟩
theorem recv_eq_iff {a b : Dev nD} {t u : Fin 24} : recvCell a t = recvCell b u ↔ a = b ∧ t = u :=
  ⟨fun h => ⟨congrArg (fun g : GSem nD τ sig => g.1.1) h, rS_inj (congrArg Prod.snd h)⟩, fun ⟨h, h'⟩ => h ▸ h' ▸ rfl⟩
theorem recv_ne_bar' (a b : Dev nD) (t : Fin 24) : recvCell a t ≠ barCell b := fun h => dma_ne_bar _ (congrArg Prod.snd h)

theorem owedL_bar (d c : Dev nD) : ∀ l : List (Fin 24), owedL d l (barCell c) () = 0
  | [] => rfl
  | t :: l => by
    unfold owedL
    rw [Pi.add_apply, Finsupp.add_apply, tallyAt_apply, owedL_bar d c l, if_neg fun h => recv_ne_bar' _ _ _ h.1.symm]
theorem owedL_recv (d c : Dev nD) (t : Fin 24) : ∀ l : List (Fin 24), l.Nodup → owedL d l (recvCell c t) () = if t ∈ l ∧ d = other t c then N else 0
  | [], _ => (if_neg fun h => List.not_mem_nil h.1).symm
  | u :: l, h => by
    unfold owedL
    rw [List.nodup_cons] at h
    rw [Pi.add_apply, Finsupp.add_apply, tallyAt_apply, owedL_recv d c t l h.2]
    have he : d = other t c ↔ c = other t d := ⟨fun e => by rw [e, other_other], fun e => by rw [e, other_other]⟩
    by_cases hu : t = u
    · subst hu
      rw [if_neg fun h' => h.1 h'.1, Nat.zero_add]
      refine if_congr ?_ rfl rfl
      rw [recv_eq_iff, he]; simp
    · rw [if_neg (show ¬ (recvCell c t = recvCell (other u d) u ∧ () = ()) from fun h' => hu (recv_eq_iff.mp h'.1).2), Nat.add_zero]
      refine if_congr ?_ rfl rfl
      rw [List.mem_cons]; simp [hu]

theorem peer_iff (h : Bool) (d c : Dev nD) : c = peer h d ↔ d = peer h c := ⟨fun e => by rw [e, peer_peer], fun e => by rw [e, peer_peer]⟩

/-- A device owes a unit to the barrier cell of each partner, -/
theorem owed_bar (d c : Dev nD) : O₀ d (barCell c) () = (if d = pB c then 1 else 0) + (if d = pA c then 1 else 0) := by
  unfold O₀ O₁
  rw [Pi.add_apply, Finsupp.add_apply, Pi.add_apply, Finsupp.add_apply, tallyAt_apply, tallyAt_apply, owedL_bar, Nat.zero_add]
  congr 1 <;> refine if_congr ?_ rfl rfl
  · rw [bar_eq_iff]; exact (and_iff_left rfl).trans (peer_iff true d c)
  · rw [bar_eq_iff]; exact (and_iff_left rfl).trans (peer_iff false d c)
/-- and a landing to the other end of each copy. -/
theorem owed_recv (d c : Dev nD) (t : Fin 24) : O₀ d (recvCell c t) () = if d = other t c then N else 0 := by
  unfold O₀ O₁
  rw [Pi.add_apply, Finsupp.add_apply, Pi.add_apply, Finsupp.add_apply, tallyAt_ne_cell (recv_ne_bar' _ _ _), tallyAt_ne_cell (recv_ne_bar' _ _ _),
    Finsupp.zero_apply, Nat.add_zero, Nat.add_zero, owedL_recv d c t sendOrder (by decide)]
  exact if_congr (and_iff_right ((by decide : ∀ t : Fin 24, t ∈ sendOrder) t)) rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pB c) fun _ => 1, Finset.sum_ite_eq' Finset.univ (pA c) fun _ => 1, if_pos (Finset.mem_univ _), if_pos (Finset.mem_univ _)]
theorem launch_recv (c : Dev nD) (t : Fin 24) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (other t c) fun _ => N, if_pos (Finset.mem_univ _)]

/-- The semaphores of the landings. -/
def landSems : Finset (SemLoc sig) := Finset.univ.map ⟨fun t : Fin 24 => .dma (rS t), fun _ _ h => rS_inj h⟩
theorem landSems_subset : landSems ⊆ Finset.univ.erase (SemLoc.reg barS) := fun s hs => by
  obtain ⟨t, _, rfl⟩ := Finset.mem_map.mp hs
  exact Finset.mem_erase.mpr ⟨dma_ne_bar _, Finset.mem_univ _⟩

omit [FloatOps F] in
theorem creds (c : Dev nD) :
    (Pipeline.launchCred O₀ c : sProp 𝕄) ⊢ iprop(cred (tallyAt (barCell c) () 2) ∗ bigSep Finset.univ fun t : Fin 24 => cred (tallyAt (recvCell c t) () N)) := by
  unfold Pipeline.launchCred
  rw [bigSep_univ_at _ (SemLoc.reg barS), launch_bar]
  refine sep_mono_right ((bigSep_subset landSems_subset).trans ?_)
  unfold landSems
  rw [bigSep_map]
  exact bigSep_mono fun t _ => Entails.of_eq (congrArg cred (launch_recv c t))

/-! ## The conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' records linear payToks
  rw [sep_option, sep_pairs]
  iintro ⟨-, Hlev, Hcr, -, ⟨%K, ⟨HI, HR⟩, ⟨HaB, HaS, HaV⟩, ⟨Hb0, Hb1⟩, HtS, HtV⟩⟩
  ihave Hc := (creds (F := F) c) $$ Hcr
  icases Hc with ⟨HcB, HcV⟩
  imodintro
  unfold start
  isplitl
  · iexists K
    isplitl [HI HR Hlev]
    · unfold Rec
      isplitl [HI]; · iexact HI
      isplitl [HR]; · iexact HR
      iexact Hlev
    isplitl [HaB Hb0 Hb1 HcB]
    · unfold barTok
      isplitl [HaB]; · iexact HaB
      isplitl [Hb0]; · iexact Hb0
      isplitl [Hb1] <;> iassumption
    isplitl [HaS HtS HtV]
    · iapply (Entails.of_eq (sep_list sendOrder (by decide) (by decide) (toStart (F := F) c)))
      unfold toStart; rw [bigSep_sep', bigSep_sep']
      isplitl [HaS]; · iexact HaS
      isplitl [HtV]; · iexact HtV
      iexact HtS
    · iapply (Entails.of_eq (sep_list waitOrder (by decide) (by decide) (toLand (F := F) c)))
      unfold toLand; rw [bigSep_sep']
      isplitl [HaV]; · iexact HaV
      iexact HcV
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq,
    sep_list doneOrder (by decide) (by decide) (fun t => semVal (sendCell c t) 0), sep_list doneOrder (by decide) (by decide) (fun t => semVal (recvCell c t) 0)]
  unfold Φ₁ scratch
  iintro ⟨HzB, HzS, HzV, Hr⟩
  isplitl [HzB]; · iexact HzB
  isplitl [HzS HzV]
  · isplitl [HzS] <;> iassumption
  iexact Hr

theorem stage_not_recv : ∀ (w : Fin cfg0.W) (s), ¬ IsRecv (.dma ((cfg0.spec w).sem s)) := by
  rintro w s ⟨t, h⟩
  have hw : ∀ w s, ((cfg0.spec w).sem s).val < 4 := by decide
  have := hw w s
  rw [SemLoc.dma.inj h] at this
  simp at this; omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_not_recv w s) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution on the four devices ends, with each
    device's arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input arrays after the run hold what they held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdeal.Reduce

end
-- ==== Proof.Value.lean ====
/-
# The values over the extended reals

The gated convolution as a function of the whole inputs, for any number of channels, and the kernel's products and sums as sums of
its entries: each device holds the convolution of its own channels, and the four devices' products add up to the same sum on every
device.
-/
module

public import proofs.«01_k».proof.Proof.Run
public import Idealize.ShloMosaic.Lib.MatmulPlain
public import Idealize.ShloMosaic.Lib.IdealHost
public import Idealize.ShloMosaic.Lib.ValueLayout
public import Idealize.ShloMosaic.Lib.Pointwise.SelectCore
public import Idealize.ShloMosaic.Lib.Layout

@[expose] public section

noncomputable section

namespace Cert.KernelIdeal.Reduce

open Cert.KernelIdeal Cert.KernelIdeal.Gen

open Idealize.ShloMosaic hiding ix2 ix3 mulf_apply addf_apply subf_apply divf_apply
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open scoped BigOperators
open Idealize.ShloMosaic.Pipeline (Dat Cfg Window BodyObligation cellOf)

/-! ## The function computed -/

/-- `x` times the logistic function of `x`. -/
def silu (x : EReal) : EReal := Ideal.div x (1 + Ideal.exp (-x))

/-- The row `s` before row `r`, zero before the first. -/
def past {n : ℕ} (X : Shape.Idx ⟨3, ![4, 1024, n]⟩ → EReal) (b : Fin 4) (q : Fin n) (s : ℕ) (r : Fin 1024) : EReal :=
  if r.val < s then 0 else X (ix3 b ⟨r.val - s, lt_of_le_of_lt (Nat.sub_le _ _) r.isLt⟩ q)

/-- The causal convolution of four taps at a batch, a row and a channel. -/
def conv {n : ℕ} (X : Shape.Idx ⟨3, ![4, 1024, n]⟩ → EReal) (K : Shape.Idx ⟨2, ![4, n]⟩ → EReal)
    (b : Fin 4) (r : Fin 1024) (q : Fin n) : EReal :=
  past X b q 3 r * K (ix2 0 q) + past X b q 2 r * K (ix2 1 q) + past X b q 1 r * K (ix2 2 q) + past X b q 0 r * K (ix2 3 q)

/-- The product of the gated convolution with the weights, at a batch, a row and an output column. -/
def proj {n : ℕ} (X : Shape.Idx ⟨3, ![4, 1024, n]⟩ → EReal) (K : Shape.Idx ⟨2, ![4, n]⟩ → EReal)
    (W : Shape.Idx ⟨2, ![n, 512]⟩ → EReal) (b : Fin 4) (r : Fin 1024) (j : Fin 512) : EReal :=
  ∑ q : Fin n, silu (conv X K b r q) * W (ix2 q j)

/-- The divisor of the gate is not zero. -/
theorem gate_ne (x : EReal) : 1 + Ideal.exp x ≠ 0 := by
  have h0 : (0 : EReal) ≤ Ideal.exp x := by
    induction x using EReal.rec with
    | bot => exact le_refl _
    | top => exact le_top
    | coe r => exact EReal.coe_nonneg.mpr (Real.exp_pos r).le
  have h1 : (1 : EReal) ≤ 1 + Ideal.exp x := le_add_of_nonneg_right h0
  intro e; rw [e] at h1; exact absurd h1 (by simp)

/-- The kernel's gate, a product with the reciprocal, is `silu`. -/
theorem gate_silu (x : EReal) : x * Ideal.div 1 (1 + Ideal.exp (0 - x)) = silu x := by
  rw [zero_sub]; exact Ideal.mul_one_div (gate_ne _)

/-! ## The kernel's operations at an entry -/

/-- Rows of a scalar put before the first rows of an array. -/
theorem shift_apply (s n : ℕ) (hsn : s + n = 1024) (z : EReal) (y : S1024x512.Idx → EReal)
    (hc : Shape.Concatenates [(⟨2, ![s, 512]⟩ : Shape), ⟨2, ![n, 512]⟩] S1024x512 0)
    (hsl : S1024x512.Slices ![0, 0] ⟨2, ![n, 512]⟩) (r : Fin 1024) (q : Fin 512) :
    concatenate S1024x512 0 [⟨(⟨2, ![s, 512]⟩ : Shape), broadcast _ z⟩, ⟨(⟨2, ![n, 512]⟩ : Shape), extractStridedSlice _ ![0, 0] y hsl⟩] hc (ix2 r q)
      = if r.val < s then z else y (ix2 ⟨r.val - s, lt_of_le_of_lt (Nat.sub_le _ _) r.isLt⟩ q) := by
  rw [concatenate_pair_apply]
  by_cases h : r.val < s
  · rw [if_pos h]; exact dif_pos h
  · rw [if_neg h]; refine (dif_neg h).trans ?_
    refine extractStridedSlice_apply _ _ _ _ _ fun a => ?_
    match a with
    | ⟨0, _⟩ => exact (Nat.zero_add _).symm
    | ⟨1, _⟩ => exact (Nat.zero_add _).symm

/-- A row of taps, broadcast over the rows. -/
theorem taps_apply (k : S1x512.Idx → EReal) (h1 : S1x512.ShapeCasts S512) (h2 : S512.ShapeCasts S1x512)
    (h3 : S1x512.Broadcasts S1024x512) (r : Fin 1024) (q : Fin 512) :
    broadcastTo S1024x512 (shapeCast S1x512 (shapeCast S512 k h1) h2) h3 (ix2 r q) = k (ix2 0 q) := by
  rw [broadcastTo_apply _ _ _ (ix2 0 q) (fun a => by match a with | ⟨0, _⟩ => rfl | ⟨1, _⟩ => rfl)]
  exact (shapeCast_a_1a_apply _ _ _ _).trans (shapeCast_1a_a_apply _ _ _)

/-- The kernel's gated convolution at a row and a channel. -/
theorem gated_apply (X : Shape.Idx ⟨3, ![4, 1024, 512]⟩ → EReal) (K : Shape.Idx ⟨2, ![4, 512]⟩ → EReal) (b : Fin 4)
    (x : Vec Ideal S1x1024x512 .f32) (k0 k1 k2 k3 : Vec Ideal S1x512 .f32) (r : Fin 1024) (q : Fin 512)
    (hx : ∀ r, x (ix3 0 r q) = X (ix3 b r q)) (h0 : k0 (ix2 0 q) = K (ix2 0 q)) (h1 : k1 (ix2 0 q) = K (ix2 1 q))
    (h2 : k2 (ix2 0 q) = K (ix2 2 q)) (h3 : k3 (ix2 0 q) = K (ix2 3 q)) :
    k0_pay1 (F := Ideal) x k3 k0 k1 k2 (ix2 r q) = silu (conv X K b r q) := by
  have hy : ∀ r, shapeCast S1024x512 x shapeCasts_S1x1024x512_S1024x512 (ix2 r q) = X (ix3 b r q) := fun r =>
    (shapeCast_1ab_ab_apply _ _ _ _).trans (hx r)
  have e0 := taps_apply k0 shapeCasts_S1x512_S512 shapeCasts_S512_S1x512 broadcasts_S1x512_S1024x512 r q
  have e1 := taps_apply k1 shapeCasts_S1x512_S512 shapeCasts_S512_S1x512 broadcasts_S1x512_S1024x512 r q
  have e2 := taps_apply k2 shapeCasts_S1x512_S512 shapeCasts_S512_S1x512 broadcasts_S1x512_S1024x512 r q
  have e3 := taps_apply k3 shapeCasts_S1x512_S512 shapeCasts_S512_S1x512 broadcasts_S1x512_S1024x512 r q
  have z : (FloatOps.ofBits (F := Ideal) .f32 0x00000000#32 : EReal) = 0 := Ideal.ofBits_zero_f32
  have o : (FloatOps.ofBits (F := Ideal) .f32 0x3F800000#32 : EReal) = 1 := Ideal.ofBits_one_f32
  have s3 := shift_apply 3 1021 rfl 0
    (shapeCast S1024x512 x shapeCasts_S1x1024x512_S1024x512) concatenates_S3x512_S1021x512_S1024x512_d0 slices_S1024x512_o0_0_S1021x512 r q
  have s2 := shift_apply 2 1022 rfl 0
    (shapeCast S1024x512 x shapeCasts_S1x1024x512_S1024x512) concatenates_S2x512_S1022x512_S1024x512_d0 slices_S1024x512_o0_0_S1022x512 r q
  have s1 := shift_apply 1 1023 rfl 0
    (shapeCast S1024x512 x shapeCasts_S1x1024x512_S1024x512) concatenates_S1x512_S1023x512_S1024x512_d0 slices_S1024x512_o0_0_S1023x512 r q
  rw [hy] at s3 s2 s1
  have ex : ∀ (v : FVec Ideal S1024x512 .f32) i, exp v i = Ideal.exp (v i) := fun _ _ => rfl
  rw [h0] at e0; rw [h1] at e1; rw [h2] at e2; rw [h3] at e3
  have e : (X (ix3 b r q) * K (ix2 3 q) + past X b q 3 r * K (ix2 0 q) + past X b q 2 r * K (ix2 1 q) + past X b q 1 r * K (ix2 2 q))
      = conv X K b r q := by
    have p0 : past X b q 0 r = X (ix3 b r q) := if_neg (Nat.not_lt_zero _)
    unfold conv; rw [p0]; ac_rfl
  rw [← gate_silu, ← e]
  unfold k0_pay1
  simp only [mulf_apply, addf_apply, subf_apply, divf_apply, broadcast_apply, ex]
  rw [z, o, e0, e1, e2, e3, s3, s2, s1, hy]
  rfl

/-! ## The kernel's products -/

/-- A plain product onto zero, at a row and a column. -/
theorem product_apply {M : ℕ} (y : FVec Ideal ⟨2, ![M, 512]⟩ .f32) (w : FVec Ideal S512x512 .f32) (r : Fin M) (j : Fin 512) :
    FloatOps.matmul (F := Ideal) (DotDims.plain M 512 512) none y (shapeCast S512x512 w shapeCasts_S512x512_S512x512)
        (constant _ .f32 0x00000000#32) (ix2 r j) = ∑ q : Fin 512, y (ix2 r q) * w (ix2 q j) := by
  rw [Ideal.matmul_plain_apply, shapeCast_self]
  exact (congrArg (· + _) Ideal.ofBits_zero_f32).trans (zero_add _)

section Products
variable (X : Shape.Idx ⟨3, ![4, 1024, 512]⟩ → EReal) (K : Shape.Idx ⟨2, ![4, 512]⟩ → EReal)
    (x : Vec Ideal S1x1024x512 .f32) (k0 k1 k2 k3 : Vec Ideal S1x512 .f32) (w : Vec Ideal S512x512 .f32)

/-- The first half's product. -/
theorem upper_apply (r : Fin 512) (j : Fin 512) :
    k0_pay3 (F := Ideal) (k0_pay2 x k3 k0 k1 k2) w (ix3 0 r j)
      = ∑ q : Fin 512, k0_pay1 x k3 k0 k1 k2 (ix2 ⟨r.val, by omega⟩ q) * w (ix2 q j) := by
  refine (shapeCast_ab_1ab_apply _ _ _ _ _).trans ((product_apply (k0_pay2 x k3 k0 k1 k2) w r j).trans ?_)
  refine Finset.sum_congr rfl fun q _ => congrArg (· * _) ?_
  unfold k0_pay2
  generalize k0_pay1 x k3 k0 k1 k2 = g
  exact extractStridedSlice_apply ![0, 0] g slices_S1024x512_o0_0_S512x512 (ix2 r q) (ix2 ⟨r.val, by omega⟩ q) fun a => by
    match a with
    | ⟨0, _⟩ => exact (Nat.zero_add _).symm
    | ⟨1, _⟩ => exact (Nat.zero_add _).symm

/-- The second half's product. -/
theorem lower_apply (g : FVec Ideal S1024x512 .f32) (r : Fin 512) (j : Fin 512) :
    k0_pay9 (F := Ideal) g w (ix3 0 r j)
      = ∑ q : Fin 512, g (ix2 ⟨512 + r.val, by omega⟩ q) * w (ix2 q j) := by
  refine (shapeCast_ab_1ab_apply _ _ _ _ _).trans ((product_apply (extractStridedSlice S512x512 ![512, 0] g slices_S1024x512_o512_0_S512x512) w r j).trans ?_)
  refine Finset.sum_congr rfl fun q _ => congrArg (· * _) (extractStridedSlice_apply _ _ _ _ _ fun a => ?_)
  match a with
  | ⟨0, _⟩ => rfl
  | ⟨1, _⟩ => exact (Nat.zero_add _).symm

/-- The whole product. -/
theorem whole_apply (r : Fin 1024) (j : Fin 512) :
    k0_pay13 (F := Ideal) (k0_pay11 x) (k0_pay12 x k3 k0) (Scalar.ofBits .f32 0x00000000#32) k1 k2 w (ix3 0 r j)
      = ∑ q : Fin 512, k0_pay1 x k3 k0 k1 k2 (ix2 r q) * w (ix2 q j) :=
  (shapeCast_ab_1ab_apply _ _ _ _ _).trans (product_apply (k0_pay1 x k3 k0 k1 k2) w r j)

end Products

variable (m : (ℓ : Loc nD τ sig) → Buf (Elt Ideal) ℓ) (ρ : Dev nD → PrngReg)

/-- The product of one device's channels, at a batch, a row and a column. -/
def own (c : Dev nD) (b : Fin 4) (r : Fin 1024) (j : Fin 512) : EReal :=
  proj (n := 512) (xstg m ρ c) (kstg m ρ c) (wstg m ρ c) b r j

/-- The gated convolution of one device's channels. -/
theorem gated_own (c : Dev nD) (b : Fin 4) (r : Fin 1024) (q : Fin 512) :
    k0_pay1 (F := Ideal) (xw m ρ c b.val) (kw m ρ c 3) (kw m ρ c 0) (kw m ρ c 1) (kw m ρ c 2) (ix2 r q)
      = silu (conv (n := 512) (xstg m ρ c) (kstg m ρ c) b r q) := by
  refine gated_apply _ _ b _ _ _ _ _ r q (fun r => ?_) rfl rfl rfl rfl
  unfold xw
  rw [show Fin.ofNat 4 b.val = b from Fin.ext (Nat.mod_eq_of_lt b.isLt)]

theorem wide_own (c : Dev nD) (b : Fin 4) (r : Fin 1024) (j : Fin 512) : wide m ρ c b.val r.val j.val = own m ρ c b r j := by
  unfold wide
  rw [show Fin.ofNat 1024 r.val = r from Fin.ext (Nat.mod_eq_of_lt r.isLt),
    show Fin.ofNat 512 j.val = j from Fin.ext (Nat.mod_eq_of_lt j.isLt), whole_apply]
  exact Finset.sum_congr rfl fun q _ => congrArg (· * _) (gated_own m ρ c b r q)

theorem part_own (c : Dev nD) (b : Fin 4) (r : Fin 1024) (j : Fin 512) : part m ρ c b.val r.val j.val = own m ρ c b r j := by
  unfold part
  rw [show Fin.ofNat 512 j.val = j from Fin.ext (Nat.mod_eq_of_lt j.isLt)]
  split_ifs with h
  · rw [show Fin.ofNat 512 r.val = ⟨r.val, h⟩ from Fin.ext (Nat.mod_eq_of_lt h), upper_apply]
    exact Finset.sum_congr rfl fun q _ => congrArg (· * _) (gated_own m ρ c b r q)
  · have hr : r.val - 512 < 512 := by have := r.isLt; omega
    rw [show Fin.ofNat 512 (r.val - 512) = ⟨r.val - 512, hr⟩ from Fin.ext (Nat.mod_eq_of_lt hr), lower_apply]
    unfold own proj
    refine Finset.sum_congr rfl fun q _ => ?_
    rw [show (⟨512 + (r.val - 512), by omega⟩ : Fin 1024) = r from Fin.ext (by show 512 + (r.val - 512) = r.val; omega)]
    exact congrArg (· * _) (gated_own m ρ c b r q)

/-! ## The sums over the devices -/

/-- A sum of two bands of rows, at an entry. -/
theorem pairSum_apply (x : Vec Ideal S1x256x512 .f32) (y : Vec Ideal S1x256x512 .bf16) (i : Fin 256) (j : Fin 512) :
    k0_pay17 (F := Ideal) x y (ix3 0 i j) = (x (ix3 0 i j) + y (ix3 0 i j) : EReal) := by
  unfold k0_pay17
  refine (shapeCast_ab_1ab_apply _ _ _ _ _).trans ?_
  exact congrArg₂ (fun a b : EReal => a + b) (shapeCast_1ab_ab_apply x shapeCasts_S1x256x512_S256x512 i j)
    (shapeCast_1ab_ab_apply y shapeCasts_S1x256x512_S256x512 i j)

/-- A sum of three bands of rows, at an entry. -/
theorem total_apply (x : Vec Ideal S1x256x512 .f32) (y z : Vec Ideal S1x256x512 .bf16) (i : Fin 256) (j : Fin 512) :
    k0_pay28 (F := Ideal) x y z (ix3 0 i j) = (x (ix3 0 i j) + y (ix3 0 i j) + z (ix3 0 i j) : EReal) := by
  unfold k0_pay28
  refine (shapeCast_ab_1ab_apply _ _ _ _ _).trans ?_
  exact congrArg₂ (fun a b : EReal => a + b) (congrArg₂ (fun a b : EReal => a + b)
      (shapeCast_1ab_ab_apply x shapeCasts_S1x256x512_S256x512 i j) (shapeCast_1ab_ab_apply y shapeCasts_S1x256x512_S256x512 i j))
    (shapeCast_1ab_ab_apply z shapeCasts_S1x256x512_S256x512 i j)

/-- A band's row is the row of the whole. -/
theorem win_row {α : Type} (g : ℕ → ℕ → α) (r : Fin 1024) (j : Fin 512) :
    win g (256 * (r.val / 256)) (ix3 0 (Fin.ofNat 256 r.val) (Fin.ofNat 512 j.val)) = g r.val j.val := by
  show g (256 * (r.val / 256) + r.val % 256) (j.val % 512) = _
  rw [Nat.div_add_mod, Nat.mod_eq_of_lt j.isLt]

theorem pairSum_own (c : Dev nD) (h : Bool) (r : Fin 1024) (j : Fin 512) (hb : kb h c < 4) :
    pairSum m ρ c h r.val j.val = own m ρ c ⟨kb h c, hb⟩ r j + own m ρ (peer h c) ⟨kb h c, hb⟩ r j := by
  unfold pairSum
  rw [pairSum_apply, win_row, win_row, wide_own m ρ c ⟨kb h c, hb⟩, part_own m ρ (peer h c) ⟨kb h c, hb⟩]

/-- The two halves of a pair and of the other pair are all the devices. -/
theorem devices_pairs : ∀ (h : Bool) (c : Dev nD), (Finset.univ : Finset (Dev nD)).val
    = c ::ₘ peer h c ::ₘ peer (!h) c ::ₘ peer h (peer (!h) c) ::ₘ 0 := by decide
theorem sum_devices (f : Dev nD → EReal) (h : Bool) (c : Dev nD) :
    ∑ d, f d = f c + f (peer h c) + (f (peer (!h) c) + f (peer h (peer (!h) c))) := by
  show (Multiset.map f (Finset.univ : Finset (Dev nD)).val).sum = _
  rw [devices_pairs h c]
  simp only [Multiset.map_cons, Multiset.map_zero, Multiset.sum_cons, Multiset.sum_zero, add_zero, add_assoc]

theorem total_own (c : Dev nD) (h : Bool) (r : Fin 1024) (j : Fin 512) (b : Fin 4) (e : kb h c = b.val)
    (e' : kb h (peer (!h) c) = b.val) :
    total m ρ c h r.val j.val = ∑ d : Dev nD, own m ρ d b r j := by
  unfold total
  rw [total_apply, win_row, win_row, win_row, e, wide_own m ρ c b, part_own m ρ (peer h c) b]
  rw [pairSum_own m ρ (peer (!h) c) h r j (e' ▸ b.isLt), show (⟨kb h (peer (!h) c), e' ▸ b.isLt⟩ : Fin 4) = b from Fin.ext e',
    sum_devices (fun d => own m ρ d b r j) h c]

/-- The result array is the same on every device: the products of all the devices' channels added up. -/
theorem outC_own (c : Dev nD) (b : Fin 4) (r : Fin 1024) (j : Fin 512) :
    outC m ρ c (ix3 b r j) = ∑ d : Dev nD, own m ρ d b r j := by
  have hk := batch_cases c b
  have h0 := batch_low false c
  have h1 := batch_low true c
  simp only [Bool.false_eq_true, iff_false, iff_true] at h0 h1
  show total m ρ (if b.val = kb (decide (2 ≤ b.val)) c then c else peer (decide (2 ≤ b.val)) c) (decide (2 ≤ b.val)) r.val j.val = _
  obtain ⟨h, hd, hb⟩ : ∃ h : Bool, decide (2 ≤ b.val) = h ∧ (b.val = kb h c ∨ b.val = nb h c) := by
    rcases hk with hk | hk
    · exact ⟨false, decide_eq_false (by omega), hk⟩
    · exact ⟨true, decide_eq_true (by omega), hk⟩
  rw [hd]
  split_ifs with hc
  · exact total_own m ρ c h r j b hc.symm ((kb_other h c).trans hc.symm)
  · have e : kb h (peer h c) = b.val := (kb_peer h c).trans (hb.resolve_left hc).symm
    exact total_own m ρ (peer h c) h r j b e ((kb_other h _).trans e)

/-! ## The arrays of the run -/

section Whole
variable {F : FTy → Type} [FloatOps F] (n : (ℓ : Loc nD τ sig) → Buf (Elt F) ℓ) (ρ' : Dev nD → PrngReg)

/-- The staged inputs are the whole argument arrays. -/
theorem xstg_eq (c : Dev nD) : xstg n ρ' c = n (c.tc.loc main_arg0) :=
  Memref.read_access_unit_zero (Elt F) main_arg0 (funext fun a => by fin_cases a <;> decide) (fun a => by fin_cases a <;> decide) _
theorem kstg_eq (c : Dev nD) : kstg n ρ' c = n (c.tc.loc main_arg1) :=
  Memref.read_access_unit_zero (Elt F) main_arg1 (funext fun a => by fin_cases a <;> decide) (fun a => by fin_cases a <;> decide) _
theorem wstg_eq (c : Dev nD) : wstg n ρ' c = n (c.tc.loc main_arg2) :=
  Memref.read_access_unit_zero (Elt F) main_arg2 (funext fun a => by fin_cases a <;> decide) (fun a => by fin_cases a <;> decide) _

/-- The result array at the end of the run. -/
theorem finalA_out (c : Dev nD) : finalA n ρ' c (3 : Fin 4) = outC n ρ' c := by
  have h : (win0_3.blk (0 : Fin 1)).view.read (Elt F) (finalA n ρ' c (3 : Fin 4)) = outC n ρ' c := by
    unfold finalA
    rw [show cfg0.N = ((0 : Fin 1) : Fin cfg0.N).val + 1 from rfl, (dats n ρ' 0 c).arrAt_succ (3 : Fin 4) (0 : Fin 1),
      show (cfg0.win (3 : Fin 4)).flush (0 : Fin 1) = true from by decide, if_pos rfl]
    exact View.read_write_univ _ _
  rw [← h]
  exact (Memref.read_access_unit_zero (Elt F) main_v1 (funext fun a => by fin_cases a <;> decide) (fun a => by fin_cases a <;> decide) _).symm

end Whole

end Cert.KernelIdeal.Reduce

end
-- ==== Proof.Entry.lean ====
/-
# The reference at an entry

The reference's result, read at a batch, a row and a column, is `proj` of the whole inputs; and that sum over all the channels is the
sum over the devices of the sums over their own channels.
-/
module

public import proofs.«01_k».proof.Proof.Value
public import proofs.«01_k».proof.Proof.Gen.ReferenceIdeal.Run

@[expose] public section

noncomputable section

namespace Cert.ReferenceIdeal.Entry

open Cert.ReferenceIdeal Cert.ReferenceIdeal.Gen
open Idealize.ShloMosaic hiding ix1 ix2 ix3 mulf_apply addf_apply subf_apply divf_apply
open Idealize.ShloMosaic.TcCoe Idealize.ShloMosaic.ValueIdx
open Cert.KernelIdeal.Reduce (silu past conv proj)
open scoped BigOperators

/-! ## The reference's operations at an entry -/

/-- Three zero rows put before an array, read from row `t` on. -/
theorem pad_apply (x : S4x1024x2048.Idx → EReal) (z : S4x3x2048.Idx → EReal) (hz : ∀ i, z i = 0)
    (hc : Shape.Concatenates [S4x3x2048, S4x1024x2048] S4x1027x2048 1) (t : ℕ) (ht : t ≤ 3)
    (hs : S4x1027x2048.Slices ![0, t, 0] S4x1024x2048) (b : Fin 4) (r : Fin 1024) (q : Fin 2048) :
    extractStridedSlice S4x1024x2048 ![0, t, 0] (concatenate S4x1027x2048 1 [⟨S4x3x2048, z⟩, ⟨S4x1024x2048, x⟩] hc) hs (ix3 b r q)
      = past x b q (3 - t) r := by
  rw [extractStridedSlice_apply _ _ _ _ (ix3 b (⟨t + r.val, by have := r.isLt; omega⟩ : Fin 1027) q) (fun a => by
    match a with
    | ⟨0, _⟩ => exact (Nat.zero_add _).symm
    | ⟨1, _⟩ => rfl
    | ⟨2, _⟩ => exact (Nat.zero_add _).symm), concatenate_pair_apply]
  unfold past
  by_cases h : t + r.val < 3
  · rw [if_pos (show r.val < 3 - t by omega)]; exact (dif_pos h).trans (hz _)
  · rw [if_neg (show ¬ r.val < 3 - t by omega)]
    refine (dif_neg h).trans (congrArg x (funext fun a => Fin.ext ?_))
    match a with
    | ⟨0, _⟩ => rfl
    | ⟨1, _⟩ => show t + r.val - 3 = r.val - (3 - t); omega
    | ⟨2, _⟩ => rfl

/-- One row of the taps, broadcast over batches and rows. -/
theorem taps_apply (k : S4x2048.Idx → EReal) (t : Fin 4) (hs : S4x2048.Slices ![t.val, 0] S1x2048) (hc : S1x2048.ShapeCasts S2048)
    (h1 : S2048.BroadcastsInDim S1x1x2048 ![2]) (h2 : S1x1x2048.BroadcastsInDim S4x1024x2048 ![0, 1, 2])
    (b : Fin 4) (r : Fin 1024) (q : Fin 2048) :
    broadcastInDim S4x1024x2048 ![0, 1, 2] h2 (broadcastInDim S1x1x2048 ![2] h1
      (shapeCast S2048 (extractStridedSlice S1x2048 ![t.val, 0] k hs) hc)) (ix3 b r q) = k (ix2 t q) := by
  rw [broadcastInDim_apply _ _ _ _ (ix3 (0 : Fin 1) (0 : Fin 1) q) (fun a => by
      match a with | ⟨0, _⟩ => rfl | ⟨1, _⟩ => rfl | ⟨2, _⟩ => rfl),
    broadcastInDim_apply _ _ _ _ (ix1 q) (fun a => by match a with | ⟨0, _⟩ => rfl)]
  refine (shapeCast_1a_a_apply _ _ _).trans (extractStridedSlice_apply _ _ _ _ _ fun a => ?_)
  match a with
  | ⟨0, _⟩ => rfl
  | ⟨1, _⟩ => exact (Nat.zero_add _).symm

/-- The reference's gate at an entry. -/
theorem gate_apply (u v : FVec Ideal S4x1024x2048 .f32) (i : S4x1024x2048.Idx) (hv : v i = (1 : EReal)) :
    Host.divf u (addf v (Host.exp (Host.negf u))) i = silu (u i) := by
  unfold silu; rw [← hv]; rfl

/-- The reference's product at an entry. -/
theorem dot_apply (y : FVec Ideal S4x1024x2048 .f32) (w : FVec Ideal S2048x512 .f32) (b : Fin 4) (r : Fin 1024) (j : Fin 512) :
    Host.dotGeneral dot_S4x1024x2048_S2048x512_S4x1024x512_2_0_01_1_n_n none y w (ix3 b r j)
      = ∑ q : Fin 2048, y (ix3 b r q) * w (ix2 q j) := by
  have hr : dot_S4x1024x2048_S2048x512_S4x1024x512_2_0_01_1_n_n.contr.rank = 1 := rfl
  have hs : dot_S4x1024x2048_S2048x512_S4x1024x512_2_0_01_1_n_n.contr.size ⟨0, hr ▸ Nat.one_pos⟩ = 2048 := rfl
  rw [Host.dotGeneral, Ideal.dotGeneral_apply, ← Equiv.sum_comp (contrEquiv1 _ 2048 hr hs).symm]
  refine Finset.sum_congr rfl fun q _ => congrArg₂ (fun a b : EReal => a * b) (congrArg y (funext fun a => Fin.ext ?_))
    (congrArg w (funext fun a => Fin.ext ?_))
  · match a with
    | ⟨0, _⟩ => rfl
    | ⟨1, _⟩ => rfl
    | ⟨2, _⟩ => exact contrEquiv1_symm_val _ 2048 hr hs q
  · match a with
    | ⟨0, _⟩ => exact contrEquiv1_symm_val _ 2048 hr hs q
    | ⟨1, _⟩ => rfl

/-- The reference's result at an entry. -/
theorem result_apply (m : (ℓ : Loc nD τ sig) → Buf (Elt Ideal) ℓ) (c : Dev nD) (b : Fin 4) (r : Fin 1024) (j : Fin 512) :
    Value.res_out0 (F := Ideal) m c (ix3 b r j)
      = proj (n := 2048) (m ((c.tc : Thread nD τ).loc main_arg0)) (m ((c.tc : Thread nD τ).loc main_arg1))
          (m ((c.tc : Thread nD τ).loc main_arg2)) b r j := by
  refine (dot_apply _ _ b r j).trans (Finset.sum_congr rfl fun q _ => congrArg (· * _) ?_)
  have hz : ∀ i, broadcastInDim S4x3x2048 ![] bcast_S_S4x3x2048 (constant (F := Ideal) S_ .f32 0x00000000#32) i = (0 : EReal) := fun i =>
    (broadcastInDim_scalar_apply _ _ _).trans Ideal.ofBits_zero_f32
  have z : broadcastInDim S4x1024x2048 ![] bcast_S_S4x1024x2048 (constant (F := Ideal) S_ .f32 0x00000000#32) (ix3 b r q) = (0 : EReal) :=
    (broadcastInDim_scalar_apply _ _ _).trans Ideal.ofBits_zero_f32
  have o : broadcastInDim S4x1024x2048 ![] bcast_S_S4x1024x2048 (constant (F := Ideal) S_ .f32 0x3F800000#32) (ix3 b r q) = (1 : EReal) :=
    (broadcastInDim_scalar_apply _ _ _).trans Ideal.ofBits_one_f32
  have p0 := pad_apply (m ((c.tc : Thread nD τ).loc main_arg0)) _ hz concatenates_S4x3x2048_S4x1024x2048_S4x1027x2048_d1 0 (by decide) slices_S4x1027x2048_S4x1024x2048_0_0_0 b r q
  have p1 := pad_apply (m ((c.tc : Thread nD τ).loc main_arg0)) _ hz concatenates_S4x3x2048_S4x1024x2048_S4x1027x2048_d1 1 (by decide) slices_S4x1027x2048_S4x1024x2048_0_1_0 b r q
  have p2 := pad_apply (m ((c.tc : Thread nD τ).loc main_arg0)) _ hz concatenates_S4x3x2048_S4x1024x2048_S4x1027x2048_d1 2 (by decide) slices_S4x1027x2048_S4x1024x2048_0_2_0 b r q
  have p3 := pad_apply (m ((c.tc : Thread nD τ).loc main_arg0)) _ hz concatenates_S4x3x2048_S4x1024x2048_S4x1027x2048_d1 3 (by decide) slices_S4x1027x2048_S4x1024x2048_0_3_0 b r q
  have t0 := taps_apply (m ((c.tc : Thread nD τ).loc main_arg1)) 0 slices_S4x2048_S1x2048_0_0 shapeCasts_S1x2048_S2048 bcast_S2048_S1x1x2048_2 bcast_S1x1x2048_S4x1024x2048_0_1_2 b r q
  have t1 := taps_apply (m ((c.tc : Thread nD τ).loc main_arg1)) 1 slices_S4x2048_S1x2048_1_0 shapeCasts_S1x2048_S2048 bcast_S2048_S1x1x2048_2 bcast_S1x1x2048_S4x1024x2048_0_1_2 b r q
  have t2 := taps_apply (m ((c.tc : Thread nD τ).loc main_arg1)) 2 slices_S4x2048_S1x2048_2_0 shapeCasts_S1x2048_S2048 bcast_S2048_S1x1x2048_2 bcast_S1x1x2048_S4x1024x2048_0_1_2 b r q
  have t3 := taps_apply (m ((c.tc : Thread nD τ).loc main_arg1)) 3 slices_S4x2048_S1x2048_3_0 shapeCasts_S1x2048_S2048 bcast_S2048_S1x1x2048_2 bcast_S1x1x2048_S4x1024x2048_0_1_2 b r q
  refine (gate_apply _ _ _ o).trans (congrArg silu ?_)
  unfold conv
  rw [addf_apply, addf_apply, addf_apply, addf_apply, mulf_apply, mulf_apply, mulf_apply, mulf_apply, z, zero_add]
  exact congrArg₂ (fun a b : EReal => a + b) (congrArg₂ (fun a b : EReal => a + b) (congrArg₂ (fun a b : EReal => a + b)
    (congrArg₂ (fun a b : EReal => a * b) p0 t0) (congrArg₂ (fun a b : EReal => a * b) p1 t1))
    (congrArg₂ (fun a b : EReal => a * b) p2 t2)) (congrArg₂ (fun a b : EReal => a * b) p3 t3)

/-! ## All the channels, and the devices' own -/

/-- A sum over the channels is the sum over the devices of the sums over their own. -/
theorem sum_channels (f : Fin 2048 → EReal) :
    ∑ d : Fin 4, ∑ q : Fin 512, f ⟨d.val * 512 + q.val, by have := d.isLt; have := q.isLt; omega⟩ = ∑ q : Fin 2048, f q := by
  rw [← Fintype.sum_prod_type', ← Equiv.sum_comp (finProdFinEquiv (m := 4) (n := 512)) f]
  refine Finset.sum_congr rfl fun p _ => congrArg f (Fin.ext ?_)
  show p.1.val * 512 + p.2.val = p.2.val + 512 * p.1.val
  omega

/-- `proj` of the whole inputs is the sum over the devices of `proj` of their blocks. -/
theorem sum_blocks (X : Shape.Idx ⟨3, ![4, 1024, 2048]⟩ → EReal) (K : Shape.Idx ⟨2, ![4, 2048]⟩ → EReal)
    (W : Shape.Idx ⟨2, ![2048, 512]⟩ → EReal) (b : Fin 4) (r : Fin 1024) (j : Fin 512)
    (X' : Fin 4 → Shape.Idx ⟨3, ![4, 1024, 512]⟩ → EReal) (K' : Fin 4 → Shape.Idx ⟨2, ![4, 512]⟩ → EReal)
    (W' : Fin 4 → Shape.Idx ⟨2, ![512, 512]⟩ → EReal)
    (hX : ∀ d b r (q : Fin 512), X' d (ix3 b r q) = X (ix3 b r ⟨d.val * 512 + q.val, by have := d.isLt; have := q.isLt; omega⟩))
    (hK : ∀ d t (q : Fin 512), K' d (ix2 t q) = K (ix2 t ⟨d.val * 512 + q.val, by have := d.isLt; have := q.isLt; omega⟩))
    (hW : ∀ d (q : Fin 512) j, W' d (ix2 q j) = W (ix2 ⟨d.val * 512 + q.val, by have := d.isLt; have := q.isLt; omega⟩ j)) :
    ∑ d : Fin 4, proj (X' d) (K' d) (W' d) b r j = proj X K W b r j := by
  unfold proj
  rw [← sum_channels]
  refine Finset.sum_congr rfl fun d _ => Finset.sum_congr rfl fun q _ => ?_
  unfold conv past
  simp only [hX, hK, hW]

end Cert.ReferenceIdeal.Entry

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import proofs.«01_k».proof.Proof.Entry
public import Idealize.ShloMosaic.Lib.Quiescent
public import Idealize.ShloMosaic.Adequacy
public import Idealize.ShloMosaic.Init

@[expose] public section

noncomputable section

namespace Cert.Proof

open Idealize.ShloMosaic Idealize.SL.Sem Cert.Kernel

open Cert.KernelIdeal.Reduce

/-- The kernel as printed has the text of the idealized one: their tables of bodies agree, -/
theorem labels_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))
theorem table_eq : Cert.Kernel.defs (F := Bits) = Cert.KernelIdeal.defs (F := Bits) := congrArg (Pipeline.defs Cert.Kernel.pcfgs) labels_eq

/-- so its run is the idealized one's, at bit patterns. -/
theorem frame_kernel : Cert.quiescent_Kernel := fun m ρ _ => by
  rw [table_eq]
  exact (θ_run Cert.KernelIdeal.defs _ _).mono
    (fun _ h => ⟨fun c => ⟨(h.1 c (0 : Fin 4)).trans (finalA_in m ρ c (0 : Fin 4) rfl), (h.1 c (1 : Fin 4)).trans (finalA_in m ρ c (1 : Fin 4) rfl),
      (h.1 c (2 : Fin 4)).trans (finalA_in m ρ c (2 : Fin 4) rfl)⟩, h.2⟩)
    (run_main (F := Bits) m ρ)

/-- The idealized kernel, at the reals. -/
theorem frame_ideal : Cert.quiescent_KernelIdeal := fun m ρ _ =>
  (θ_run Cert.KernelIdeal.defs _ _).mono
    (fun _ h => ⟨fun c => ⟨(h.1 c (0 : Fin 4)).trans (finalA_in m ρ c (0 : Fin 4) rfl), (h.1 c (1 : Fin 4)).trans (finalA_in m ρ c (1 : Fin 4) rfl),
      (h.1 c (2 : Fin 4)).trans (finalA_in m ρ c (2 : Fin 4) rfl)⟩, h.2⟩)
    (run_main (F := Ideal) m ρ)

/-- The reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the devices hold their blocks of the reference's inputs, every device's result is the reference's. -/
theorem result_eq (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ) (a : Dev Cert.ReferenceIdeal.nD)
    (hX : ∀ c : Dev Cert.KernelIdeal.nD, m ((c.tc : Thread Cert.KernelIdeal.nD Cert.KernelIdeal.τ).loc Cert.KernelIdeal.main_arg0)
      = Layout.block ⟨3, ![4, 1024, 512]⟩ ⟨3, ![4, 1024, 2048]⟩ 2 4 c (m' ((a.tc : Thread Cert.ReferenceIdeal.nD Cert.ReferenceIdeal.τ).loc Cert.ReferenceIdeal.main_arg0)))
    (hK : ∀ c : Dev Cert.KernelIdeal.nD, m ((c.tc : Thread Cert.KernelIdeal.nD Cert.KernelIdeal.τ).loc Cert.KernelIdeal.main_arg1)
      = Layout.block ⟨2, ![4, 512]⟩ ⟨2, ![4, 2048]⟩ 1 4 c (m' ((a.tc : Thread Cert.ReferenceIdeal.nD Cert.ReferenceIdeal.τ).loc Cert.ReferenceIdeal.main_arg1)))
    (hW : ∀ c : Dev Cert.KernelIdeal.nD, m ((c.tc : Thread Cert.KernelIdeal.nD Cert.KernelIdeal.τ).loc Cert.KernelIdeal.main_arg2)
      = Layout.block ⟨2, ![512, 512]⟩ ⟨2, ![2048, 512]⟩ 0 4 c (m' ((a.tc : Thread Cert.ReferenceIdeal.nD Cert.ReferenceIdeal.τ).loc Cert.ReferenceIdeal.main_arg2)))
    (c : Dev Cert.KernelIdeal.nD) : outC (F := Ideal) m g c = Cert.ReferenceIdeal.Value.res_out0 (F := Ideal) m' a := by
  funext i
  rw [ValueIdx.eq_ix3 i]
  refine (outC_own m g c (i 0) (i 1) (i 2)).trans (Eq.trans ?_ (Cert.ReferenceIdeal.Entry.result_apply m' a (i 0) (i 1) (i 2)).symm)
  refine Cert.ReferenceIdeal.Entry.sum_blocks _ _ _ _ _ _ (fun d => xstg m g d) (fun d => kstg m g d) (fun d => wstg m g d)
    (fun d b r q => ?_) (fun d t q => ?_) (fun d q j => ?_)
  · rw [xstg_eq, hX, Layout.block_apply]
    refine congrArg _ (funext fun a => Fin.ext ?_)
    match a with
    | ⟨0, _⟩ => rfl
    | ⟨1, _⟩ => rfl
    | ⟨2, _⟩ => rfl
  · rw [kstg_eq, hK, Layout.block_apply]
    refine congrArg _ (funext fun a => Fin.ext ?_)
    match a with
    | ⟨0, _⟩ => rfl
    | ⟨1, _⟩ => rfl
  · rw [wstg_eq, hW, Layout.block_apply]
    refine congrArg _ (funext fun a => Fin.ext ?_)
    match a with
    | ⟨0, _⟩ => rfl
    | ⟨1, _⟩ => rfl

/-- The idealized kernel computes the idealized reference. -/
theorem algebraic : Cert.algebraic_KernelIdeal_ReferenceIdeal := fun m g m' g' _ h =>
  ⟨Cert.ReferenceIdeal.Value.res_out0 (F := Ideal) m' 0,
    (θ_run Cert.KernelIdeal.defs _ _).mono
      (fun _ e c => ⟨((e.1 c (3 : Fin 4)).trans (finalA_out m g c)).trans
          (result_eq m g m' 0 (fun d => (h d).1) (fun d => (h d).2.1) (fun d => (h d).2.2) c),
        (e.1 c (0 : Fin 4)).trans (finalA_in m g c (0 : Fin 4) rfl), (e.1 c (1 : Fin 4)).trans (finalA_in m g c (1 : Fin 4) rfl),
        (e.1 c (2 : Fin 4)).trans (finalA_in m g c (2 : Fin 4) rfl)⟩)
      (run_main (F := Ideal) m g),
    (θ_run Cert.ReferenceIdeal.defs _ _).mono (fun _ e => e 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
